-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x20000 : Shape := ⟨2, ![64, 20000]⟩
abbrev S512x20000 : Shape := ⟨2, ![512, 20000]⟩
abbrev S64x2048 : Shape := ⟨2, ![64, 2048]⟩
abbrev S512x2048 : Shape := ⟨2, ![512, 2048]⟩
abbrev S1x2048 : Shape := ⟨2, ![1, 2048]⟩
abbrev S1 : Shape := ⟨1, ![1]⟩
abbrev S64x512 : Shape := ⟨2, ![64, 512]⟩
abbrev S2048 : Shape := ⟨1, ![2048]⟩
abbrev S512 : Shape := ⟨1, ![512]⟩
abbrev S1x512 : Shape := ⟨2, ![1, 512]⟩
abbrev S1x1x2048 : Shape := ⟨3, ![1, 1, 2048]⟩
abbrev S1x1x1 : Shape := ⟨3, ![1, 1, 1]⟩
abbrev S576x20000 : Shape := ⟨2, ![576, 20000]⟩
abbrev S512x512 : Shape := ⟨2, ![512, 512]⟩
abbrev S576x512 : Shape := ⟨2, ![576, 512]⟩

abbrev nBuf : Space → Nat
  | .hbm => 8
  | .vmem => 23
  | .smem => 3
  | _ => 0

abbrev bufTy : (tb : Table) → Fin (tcTables nBuf tb) → BufTy
  | .hbm, ⟨0, _⟩ => ⟨S64x20000, .f32⟩
  | .hbm, ⟨1, _⟩ => ⟨S512x20000, .f32⟩
  | .hbm, ⟨2, _⟩ => ⟨S64x2048, .f32⟩
  | .hbm, ⟨3, _⟩ => ⟨S512x2048, .f32⟩
  | .hbm, ⟨4, _⟩ => ⟨S1x2048, .f32⟩
  | .hbm, ⟨5, _⟩ => ⟨S1, .i32⟩
  | .hbm, ⟨6, _⟩ => ⟨S1x2048, .i32⟩
  | .hbm, ⟨7, _⟩ => ⟨S576x20000, .f32⟩
  | .local _ .vmem, ⟨0, _⟩ => ⟨S64x512, .f32⟩
  | .local _ .vmem, ⟨1, _⟩ => ⟨S64x512, .f32⟩
  | .local _ .vmem, ⟨2, _⟩ => ⟨S64x2048, .f32⟩
  | .local _ .vmem, ⟨3, _⟩ => ⟨S1x2048, .f32⟩
  | .local _ .vmem, ⟨4, _⟩ => ⟨S64x2048, .f32⟩
  | .local _ .vmem, ⟨5, _⟩ => ⟨S64x512, .f32⟩
  | .local _ .vmem, ⟨6, _⟩ => ⟨S64x512, .f32⟩
  | .local _ .vmem, ⟨7, _⟩ => ⟨S64x2048, .f32⟩
  | .local _ .vmem, ⟨8, _⟩ => ⟨S1x2048, .f32⟩
  | .local _ .vmem, ⟨9, _⟩ => ⟨S1x2048, .i32⟩
  | .local _ .vmem, ⟨10, _⟩ => ⟨S64x2048, .f32⟩
  | .local _ .vmem, ⟨11, _⟩ => ⟨S1x2048, .i32⟩
  | .local _ .vmem, ⟨12, _⟩ => ⟨S1x2048, .f32⟩
  | .local _ .vmem, ⟨13, _⟩ => ⟨S64x512, .f32⟩
  | .local _ .vmem, ⟨14, _⟩ => ⟨S64x512, .f32⟩
  | .local _ .vmem, ⟨15, _⟩ => ⟨S512x512, .f32⟩
  | .local _ .vmem, ⟨16, _⟩ => ⟨S512x512, .f32⟩
  | .local _ .vmem, ⟨17, _⟩ => ⟨S64x2048, .f32⟩
  | .local _ .vmem, ⟨18, _⟩ => ⟨S512x2048, .f32⟩
  | .local _ .vmem, ⟨19, _⟩ => ⟨S576x512, .f32⟩
  | .local _ .vmem, ⟨20, _⟩ => ⟨S576x512, .f32⟩
  | .local _ .vmem, ⟨21, _⟩ => ⟨S64x2048, .bf16⟩
  | .local _ .vmem, ⟨22, _⟩ => ⟨S512x2048, .bf16⟩
  | .local _ .smem, ⟨0, _⟩ => ⟨S1, .i32⟩
  | .local _ .smem, ⟨1, _⟩ => ⟨S1, .i32⟩
  | .local _ .smem, ⟨2, _⟩ => ⟨S1, .i32⟩
  | _, _ => ⟨S64x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg4_0 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg4_1 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc2_scratch0 : Ref sig .tc := ⟨.vmem, 21, rfl⟩
abbrev cc2_scratch1 : Ref sig .tc := ⟨.vmem, 22, rfl⟩
abbrev cc0_stg3_0 : Ref sig .tc := ⟨.smem, 0, rfl⟩
abbrev cc1_stg3_0 : Ref sig .tc := ⟨.smem, 1, rfl⟩
abbrev cc2_stg2_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem6_0 : DmaSem sig := 19
abbrev cc2_sem7_0 : DmaSem sig := 20
abbrev cc2_sem7_1 : DmaSem sig := 21

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x2048 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .smem S1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S64x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S512x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S576x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== ReferenceIdeal.lean ====
abbrev S64x20000 : Shape := ⟨2, ![64, 20000]⟩
abbrev S512x20000 : Shape := ⟨2, ![512, 20000]⟩
abbrev S64x2048 : Shape := ⟨2, ![64, 2048]⟩
abbrev S512x2048 : Shape := ⟨2, ![512, 2048]⟩
abbrev S_ : Shape := ⟨0, ![]⟩
abbrev S20000 : Shape := ⟨1, ![20000]⟩
abbrev S1x20000 : Shape := ⟨2, ![1, 20000]⟩
abbrev S2048 : Shape := ⟨1, ![2048]⟩
abbrev S1x2048 : Shape := ⟨2, ![1, 2048]⟩
abbrev S20000x64 : Shape := ⟨2, ![20000, 64]⟩
abbrev S20000x2048 : Shape := ⟨2, ![20000, 2048]⟩
abbrev S1x2048x1 : Shape := ⟨3, ![1, 2048, 1]⟩
abbrev S1 : Shape := ⟨1, ![1]⟩
abbrev S1x1x1 : Shape := ⟨3, ![1, 1, 1]⟩
abbrev S2048x1 : Shape := ⟨2, ![2048, 1]⟩
abbrev S576x20000 : Shape := ⟨2, ![576, 20000]⟩

abbrev nBuf : Space → Nat
  | .hbm => 164
  | .vmem => 0
  | .smem => 0
  | _ => 0

abbrev hbmTy0_0 (i : Nat) : BufTy := match i % 128 with
  | 0 => ⟨S64x20000, .f32⟩
  | 1 => ⟨S512x20000, .f32⟩
  | 2 => ⟨S64x2048, .f32⟩
  | 3 => ⟨S512x2048, .f32⟩
  | 4 => ⟨S64x20000, .f32⟩
  | 5 => ⟨S_, .f32⟩
  | 6 => ⟨S20000, .f32⟩
  | 7 => ⟨S1x20000, .f32⟩
  | 8 => ⟨S1x20000, .f32⟩
  | 9 => ⟨S_, .f32⟩
  | 10 => ⟨S1x20000, .f32⟩
  | 11 => ⟨S1x20000, .f32⟩
  | 12 => ⟨S64x20000, .f32⟩
  | 13 => ⟨S64x20000, .f32⟩
  | 14 => ⟨S64x2048, .f32⟩
  | 15 => ⟨S_, .f32⟩
  | 16 => ⟨S2048, .f32⟩
  | 17 => ⟨S1x2048, .f32⟩
  | 18 => ⟨S1x2048, .f32⟩
  | 19 => ⟨S_, .f32⟩
  | 20 => ⟨S1x2048, .f32⟩
  | 21 => ⟨S1x2048, .f32⟩
  | 22 => ⟨S64x2048, .f32⟩
  | 23 => ⟨S64x2048, .f32⟩
  | 24 => ⟨S64x20000, .f32⟩
  | 25 => ⟨S_, .f32⟩
  | 26 => ⟨S20000, .f32⟩
  | 27 => ⟨S20000, .f32⟩
  | 28 => ⟨S20000x64, .f32⟩
  | 29 => ⟨S20000x2048, .f32⟩
  | 30 => ⟨S20000x2048, .i32⟩
  | 31 => ⟨S_, .f32⟩
  | 32 => ⟨S_, .i32⟩
  | 33 => ⟨S2048, .f32⟩
  | 34 => ⟨S2048, .i32⟩
  | 35 => ⟨S1x2048, .i32⟩
  | 36 => ⟨S_, .i32⟩
  | 37 => ⟨S1x2048, .i32⟩
  | 38 => ⟨S1x2048, .i1⟩
  | 39 => ⟨S_, .i32⟩
  | 40 => ⟨S1x2048, .i32⟩
  | 41 => ⟨S1x2048, .i32⟩
  | 42 => ⟨S1x2048, .i32⟩
  | 43 => ⟨S1x2048x1, .i32⟩
  | 44 => ⟨S1, .i32⟩
  | 45 => ⟨S_, .i32⟩
  | 46 => ⟨S1x2048x1, .i32⟩
  | 47 => ⟨S1x2048x1, .i1⟩
  | 48 => ⟨S1x1x1, .i32⟩
  | 49 => ⟨S1x2048x1, .i32⟩
  | 50 => ⟨S1x2048x1, .i1⟩
  | 51 => ⟨S1x2048x1, .i1⟩
  | 52 => ⟨S_, .i1⟩
  | 53 => ⟨S1x2048, .i1⟩
  | 54 => ⟨S1x2048, .f32⟩
  | 55 => ⟨S_, .f32⟩
  | 56 => ⟨S1x2048, .f32⟩
  | 57 => ⟨S1x2048, .f32⟩
  | 58 => ⟨S2048, .f32⟩
  | 59 => ⟨S_, .f32⟩
  | 60 => ⟨S2048, .f32⟩
  | 61 => ⟨S2048, .i1⟩
  | 62 => ⟨S2048, .f32⟩
  | 63 => ⟨S_, .f32⟩
  | 64 => ⟨S20000, .f32⟩
  | 65 => ⟨S_, .i32⟩
  | 66 => ⟨S2048, .i32⟩
  | 67 => ⟨S2048, .i1⟩
  | 68 => ⟨S_, .i32⟩
  | 69 => ⟨S2048, .i32⟩
  | 70 => ⟨S2048, .i32⟩
  | 71 => ⟨S2048, .i32⟩
  | 72 => ⟨S2048x1, .i32⟩
  | 73 => ⟨S20000, .f32⟩
  | 74 => ⟨S_, .f32⟩
  | 75 => ⟨S20000, .f32⟩
  | 76 => ⟨S20000, .f32⟩
  | 77 => ⟨S_, .f32⟩
  | 78 => ⟨S20000, .f32⟩
  | 79 => ⟨S20000, .i1⟩
  | 80 => ⟨S1x20000, .i1⟩
  | 81 => ⟨S_, .f32⟩
  | 82 => ⟨S64x20000, .f32⟩
  | 83 => ⟨S1x2048, .f32⟩
  | 84 => ⟨S64x2048, .f32⟩
  | 85 => ⟨S64x2048, .f32⟩
  | 86 => ⟨S_, .i32⟩
  | 87 => ⟨S2048, .i32⟩
  | 88 => ⟨S2048, .i1⟩
  | 89 => ⟨S_, .i32⟩
  | 90 => ⟨S2048, .i32⟩
  | 91 => ⟨S2048, .i32⟩
  | 92 => ⟨S2048, .i32⟩
  | 93 => ⟨S2048x1, .i32⟩
  | 94 => ⟨S64x20000, .f32⟩
  | 95 => ⟨S1x20000, .f32⟩
  | 96 => ⟨S64x20000, .f32⟩
  | 97 => ⟨S64x20000, .f32⟩
  | 98 => ⟨S1x20000, .f32⟩
  | 99 => ⟨S_, .f32⟩
  | 100 => ⟨S64x20000, .f32⟩
  | 101 => ⟨S64x20000, .f32⟩
  | 102 => ⟨S_, .f32⟩
  | 103 => ⟨S64x20000, .f32⟩
  | 104 => ⟨S64x20000, .f32⟩
  | 105 => ⟨S64x20000, .f32⟩
  | 106 => ⟨S64x20000, .f32⟩
  | 107 => ⟨S64x20000, .f32⟩
  | 108 => ⟨S64x20000, .i1⟩
  | 109 => ⟨S64x20000, .f32⟩
  | 110 => ⟨S512x20000, .f32⟩
  | 111 => ⟨S_, .f32⟩
  | 112 => ⟨S20000, .f32⟩
  | 113 => ⟨S1x20000, .f32⟩
  | 114 => ⟨S1x20000, .f32⟩
  | 115 => ⟨S_, .f32⟩
  | 116 => ⟨S1x20000, .f32⟩
  | 117 => ⟨S1x20000, .f32⟩
  | 118 => ⟨S512x20000, .f32⟩
  | 119 => ⟨S512x20000, .f32⟩
  | 120 => ⟨S512x2048, .f32⟩
  | 121 => ⟨S_, .f32⟩
  | 122 => ⟨S2048, .f32⟩
  | 123 => ⟨S1x2048, .f32⟩
  | 124 => ⟨S1x2048, .f32⟩
  | 125 => ⟨S_, .f32⟩
  | 126 => ⟨S1x2048, .f32⟩
  | 127 => ⟨S1x2048, .f32⟩
  | _ => ⟨S64x20000, .f32⟩

abbrev hbmTy0_1 (i : Nat) : BufTy := match i % 128 with
  | 0 => ⟨S512x2048, .f32⟩
  | 1 => ⟨S512x2048, .f32⟩
  | 2 => ⟨S512x20000, .f32⟩
  | 3 => ⟨S_, .f32⟩
  | 4 => ⟨S20000, .f32⟩
  | 5 => ⟨S20000, .f32⟩
  | 6 => ⟨S_, .f32⟩
  | 7 => ⟨S512x20000, .f32⟩
  | 8 => ⟨S1x2048, .f32⟩
  | 9 => ⟨S512x2048, .f32⟩
  | 10 => ⟨S512x2048, .f32⟩
  | 11 => ⟨S_, .i32⟩
  | 12 => ⟨S2048, .i32⟩
  | 13 => ⟨S2048, .i1⟩
  | 14 => ⟨S_, .i32⟩
  | 15 => ⟨S2048, .i32⟩
  | 16 => ⟨S2048, .i32⟩
  | 17 => ⟨S2048, .i32⟩
  | 18 => ⟨S2048x1, .i32⟩
  | 19 => ⟨S512x20000, .f32⟩
  | 20 => ⟨S1x20000, .f32⟩
  | 21 => ⟨S512x20000, .f32⟩
  | 22 => ⟨S512x20000, .f32⟩
  | 23 => ⟨S1x20000, .f32⟩
  | 24 => ⟨S_, .f32⟩
  | 25 => ⟨S512x20000, .f32⟩
  | 26 => ⟨S512x20000, .f32⟩
  | 27 => ⟨S_, .f32⟩
  | 28 => ⟨S512x20000, .f32⟩
  | 29 => ⟨S512x20000, .f32⟩
  | 30 => ⟨S512x20000, .f32⟩
  | 31 => ⟨S512x20000, .f32⟩
  | 32 => ⟨S512x20000, .f32⟩
  | 33 => ⟨S512x20000, .i1⟩
  | 34 => ⟨S512x20000, .f32⟩
  | 35 => ⟨S576x20000, .f32⟩
  | _ => ⟨S64x20000, .f32⟩

abbrev hbmTy (i : Nat) : BufTy := match i / 128 with
  | 0 => hbmTy0_0 i
  | 1 => hbmTy0_1 i
  | _ => ⟨S64x20000, .f32⟩

abbrev bufTy : (tb : Table) → Fin (tcTables nBuf tb) → BufTy
  | .hbm, ⟨i, _⟩ => hbmTy i
  | _, _ => ⟨S64x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call1_v0 : Ref sig .tc := ⟨.hbm, 30, rfl⟩
abbrev main_call1_cst : Ref sig .tc := ⟨.hbm, 31, rfl⟩
abbrev main_call1_c : Ref sig .tc := ⟨.hbm, 32, rfl⟩
abbrev main_call1_v1_0 : Ref sig .tc := ⟨.hbm, 33, rfl⟩
abbrev main_v19 : Ref sig .tc := ⟨.hbm, 34, rfl⟩
abbrev main_v20 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_cst : Ref sig .tc := ⟨.hbm, 55, rfl⟩
abbrev main_call2_v14 : Ref sig .tc := ⟨.hbm, 56, rfl⟩
abbrev main_v21 : Ref sig .tc := ⟨.hbm, 57, rfl⟩
abbrev main_v22 : Ref sig .tc := ⟨.hbm, 58, rfl⟩
abbrev main_cst_3 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_4 : Ref sig .tc := ⟨.hbm, 63, rfl⟩
abbrev main_v26 : Ref sig .tc := ⟨.hbm, 64, rfl⟩
abbrev main_c : Ref sig .tc := ⟨.hbm, 65, rfl⟩
abbrev main_v27 : Ref sig .tc := ⟨.hbm, 66, rfl⟩
abbrev main_v28 : Ref sig .tc := ⟨.hbm, 67, rfl⟩
abbrev main_c_5 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_6 : Ref sig .tc := ⟨.hbm, 74, rfl⟩
abbrev main_v34 : Ref sig .tc := ⟨.hbm, 75, rfl⟩
abbrev main_v35 : Ref sig .tc := ⟨.hbm, 76, rfl⟩
abbrev main_cst_7 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_8 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_c_9 : Ref sig .tc := ⟨.hbm, 86, rfl⟩
abbrev main_v43 : Ref sig .tc := ⟨.hbm, 87, rfl⟩
abbrev main_v44 : Ref sig .tc := ⟨.hbm, 88, rfl⟩
abbrev main_c_10 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_11 : Ref sig .tc := ⟨.hbm, 99, rfl⟩
abbrev main_v54 : Ref sig .tc := ⟨.hbm, 100, rfl⟩
abbrev main_v55 : Ref sig .tc := ⟨.hbm, 101, rfl⟩
abbrev main_cst_12 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_call3_v0 : Ref sig .tc := ⟨.hbm, 108, rfl⟩
abbrev main_v61 : Ref sig .tc := ⟨.hbm, 109, rfl⟩
abbrev main_v62 : Ref sig .tc := ⟨.hbm, 110, rfl⟩
abbrev main_cst_13 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_14 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_15 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_cst_16 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_call4_v0 : Ref sig .tc := ⟨.hbm, 130, rfl⟩
abbrev main_call4_cst : Ref sig .tc := ⟨.hbm, 131, rfl⟩
abbrev main_call4_v1 : Ref sig .tc := ⟨.hbm, 132, rfl⟩
abbrev main_v78 : Ref sig .tc := ⟨.hbm, 133, rfl⟩
abbrev main_cst_17 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_c_18 : Ref sig .tc := ⟨.hbm, 139, rfl⟩
abbrev main_v83 : Ref sig .tc := ⟨.hbm, 140, rfl⟩
abbrev main_v84 : Ref sig .tc := ⟨.hbm, 141, rfl⟩
abbrev main_c_19 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_20 : Ref sig .tc := ⟨.hbm, 152, rfl⟩
abbrev main_v94 : Ref sig .tc := ⟨.hbm, 153, rfl⟩
abbrev main_v95 : Ref sig .tc := ⟨.hbm, 154, rfl⟩
abbrev main_cst_21 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_call5_v0 : Ref sig .tc := ⟨.hbm, 161, rfl⟩
abbrev main_v101 : Ref sig .tc := ⟨.hbm, 162, rfl⟩
abbrev main_v102 : Ref sig .tc := ⟨.hbm, 163, rfl⟩

abbrev nD : Nat := 1
abbrev τ : Topo := Topo.v7x

variable {F : FTy → Type} [FloatOps F]
-- ==== Proof.Run0.lean ====
/-
  The body of the first kernel (the running maximum), run once in each of its two control cases.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Value
public import Idealize.ShloMosaic.Lib.VecWindow
public import Idealize.ShloMosaic.Lib.Tactic

@[expose] public section

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

/-- The certificate's resource algebra: the pipeline library's beside the transfers' counters. -/
abbrev UU : Type := UR sig nD τ × Counters

local notation "𝕄" => MT nD τ sig Unit (Elt F) ℕ UU ℕ

/-- The branch the kernels take at the first point only. -/
abbrev first (b : BitVec 32) : Prop := Scalar.cmpi .ne (Scalar.extui (Scalar.cmpi .eq b 0#32) : BitVec 32) 0#32 = 1#1

/-- The number of entries above the threshold, as the kernel leaves it in its one-word result. -/
def countOf (mx : S1x2048.Idx → Elt F .f32) : S1.Idx → Elt F .i32 :=
  fun _ => extractAt ![0, 0, 0] (k0_pay4 mx) inpos_S1x1x1_p0_0_0

/-- The maximum kernel at the first point: the bank's previous keys normalised, the running maximum started. -/
theorem max_first (c : Dev nD) (i : grid0.Coords) (hi : first (BitVec.ofNat 32 (i 0).val))
    (M1 : Memref sig .tc .vmem S64x512 .f32) (h1 : M1.IsWhole) (M2 : Memref sig .tc .vmem S64x2048 .f32) (h2 : M2.IsWhole)
    (M3 : Memref sig .tc .vmem S1x2048 .f32) (h3 : M3.IsWhole) (M4 : Memref sig .tc .smem S1 .i32) (h4 : M4.IsWhole)
    (M5 : Memref sig .tc .vmem S64x2048 .f32) (h5 : M5.IsWhole)
    (X1 : S64x512.Idx → Elt F .f32) (X2 : S64x2048.Idx → Elt F .f32) (E : Set ℕ) (Q : PUnit → sProp 𝕄) :
    iprop(owns c M1 fullShare X1 ∗ owns c M2 fullShare X2 ∗ (∃ d, owns c M3 fullShare d) ∗ (∃ d, owns c M4 fullShare d)
        ∗ (∃ d, owns c M5 fullShare d)
        ∗ (iprop(owns c M1 fullShare X1 ∗ owns c M2 fullShare X2 ∗ owns c M3 fullShare (k0_pay3 i (k0_pay1 X2) X1 k0_pay2)
            ∗ owns c M4 fullShare (countOf (k0_pay3 i (k0_pay1 X2) X1 k0_pay2))
            ∗ owns c M5 fullShare (k0_pay1 X2)) -∗ Q ⟨⟩))
      ⊢ wp frame (wpE (defs₀ (F := F)) Variants.none c none) E (cc0__max_kernel i M1 h1 M2 h2 M3 h3 M4 h4 M5 h5) Q := by
  simp only [cc0__max_kernel_eq_skeleton]; unfold cc0__max_kernel_skel
  simp only [k0_part1_eq_skeleton]; unfold k0_part1_skel
  simp only [dif_pos hi]
  unfold owns
  iintro ⟨⟨%f1, %e1, H1⟩, ⟨%f2, %e2, H2⟩, ⟨%d3, %f3, -, H3⟩, ⟨%d4, %f4, -, H4⟩, ⟨%d5, %f5, -, H5⟩, Hk⟩
  sl_exec
  sl_step
  have r1 : max_first.sl.v3 c M2 M5 f2 = k0_pay1 X2 := by
    subst e2
    exact (View.readCov_full M5.view _ _ _ _).trans (congrArg k0_pay1 (View.readAt_full M2.view f2 _))
  have r2 : max_first.sl.v24 (F := F) c M3 = k0_pay2 := View.readCov_full M3.view _ _ _ _
  have r3 : max_first.sl.v28 c i M1 M2 M3 M5 f1 f2 = k0_pay3 i (k0_pay1 X2) X1 k0_pay2 := by
    subst e1
    refine (View.readCov_full M3.view _ _ _ _).trans ?_
    rw [r1, r2]
    exact congrArg (fun x => k0_pay3 i _ x _) (View.readAt_full M1.view f1 _)
  iapply Hk
  isplitl [H1]; · iexists f1; isplitr; · ipureintro; exact e1
                  iexact H1
  isplitl [H2]; · iexists f2; isplitr; · ipureintro; exact e2
                  iexact H2
  isplitl [H3]
  · iexists _; isplitr; swap; · iexact H3
    ipureintro
    refine (View.read_writes_full M3.view _ _ _ _).trans ?_
    rw [r1, r2]; subst e1
    exact congrArg (fun x => k0_pay3 i _ x _) (View.readAt_full M1.view f1 _)
  isplitl [H4]
  · iexists _; isplitr; swap; · iexact H4
    ipureintro
    refine (View.read_writes_full M4.view _ _ _ _).trans ?_
    rw [r3]; rfl
  iexists _; isplitr; swap; · iexact H5
  ipureintro
  subst e2
  exact (View.read_writes_full M5.view _ _ _ _).trans (congrArg k0_pay1 (View.readAt_full M2.view f2 _))

/-- The maximum kernel at a later point: the running maximum takes the tile's in, the count is stored again. -/
theorem max_later (c : Dev nD) (i : grid0.Coords) (hi : ¬ first (BitVec.ofNat 32 (i 0).val))
    (M1 : Memref sig .tc .vmem S64x512 .f32) (h1 : M1.IsWhole) (M2 : Memref sig .tc .vmem S64x2048 .f32) (h2 : M2.IsWhole)
    (M3 : Memref sig .tc .vmem S1x2048 .f32) (h3 : M3.IsWhole) (M4 : Memref sig .tc .smem S1 .i32) (h4 : M4.IsWhole)
    (M5 : Memref sig .tc .vmem S64x2048 .f32) (h5 : M5.IsWhole)
    (X1 : S64x512.Idx → Elt F .f32) (X2 : S64x2048.Idx → Elt F .f32) (X3 : S1x2048.Idx → Elt F .f32) (X5 : S64x2048.Idx → Elt F .f32)
    (E : Set ℕ) (Q : PUnit → sProp 𝕄) :
    iprop(owns c M1 fullShare X1 ∗ owns c M2 fullShare X2 ∗ owns c M3 fullShare X3 ∗ (∃ d, owns c M4 fullShare d)
        ∗ owns c M5 fullShare X5
        ∗ (iprop(owns c M1 fullShare X1 ∗ owns c M2 fullShare X2 ∗ owns c M3 fullShare (k0_pay3 i X5 X1 X3)
            ∗ owns c M4 fullShare (countOf (k0_pay3 i X5 X1 X3)) ∗ owns c M5 fullShare X5) -∗ Q ⟨⟩))
      ⊢ wp frame (wpE (defs₀ (F := F)) Variants.none c none) E (cc0__max_kernel i M1 h1 M2 h2 M3 h3 M4 h4 M5 h5) Q := by
  simp only [cc0__max_kernel_eq_skeleton]; unfold cc0__max_kernel_skel
  simp only [k0_part1_eq_skeleton]; unfold k0_part1_skel
  simp only [dif_neg hi]
  unfold owns
  iintro ⟨⟨%f1, %e1, H1⟩, ⟨%f2, %e2, H2⟩, ⟨%f3, %e3, H3⟩, ⟨%d4, %f4, -, H4⟩, ⟨%f5, %e5, H5⟩, Hk⟩
  sl_exec
  sl_step
  have r : (k0_pay3 i (M5.view.readAt (Elt F) (Rect.unit ![0, 0] ![64, 2048] inb_S64x2048_S64x2048_0_0).toLoadRect f5)
      (M1.view.readAt (Elt F) (Rect.unit ![0, 0] ![64, 512] inb_S64x512_S64x512_0_0).toLoadRect f1)
      (M3.view.readAt (Elt F) (Rect.unit ![0, 0] ![1, 2048] inb_S1x2048_S1x2048_0_0).toLoadRect f3)) = k0_pay3 i X5 X1 X3 := by
    subst e1 e3 e5
    have a1 := View.readAt_full M1.view f1 inb_S64x512_S64x512_0_0
    have a3 := View.readAt_full M3.view f3 inb_S1x2048_S1x2048_0_0
    have a5 := View.readAt_full M5.view f5 inb_S64x2048_S64x2048_0_0
    exact congr (congr (congrArg (k0_pay3 i) a5) a1) a3
  iapply Hk
  isplitl [H1]; · iexists f1; isplitr; · ipureintro; exact e1
                  iexact H1
  isplitl [H2]; · iexists f2; isplitr; · ipureintro; exact e2
                  iexact H2
  isplitl [H3]
  · iexists _; isplitr; swap; · iexact H3
    ipureintro
    exact (View.read_writes_full M3.view _ _ _ _).trans r
  isplitl [H4]
  · iexists _; isplitr; swap; · iexact H4
    ipureintro
    refine (View.read_writes_full M4.view _ _ _ _).trans ?_
    exact congrArg countOf ((View.readCov_full M3.view _ _ _ _).trans r)
  iexists f5; isplitr; · ipureintro; exact e5
  iexact H5

end Cert.KernelIdeal.Bank

end
-- ==== Proof.Run1.lean ====
/-
  The body of the second kernel (the first tile column that attains the maximum), run once in each of its control cases: the
  first point or a later one, some entry above the threshold or none.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Value
public import proofs.«01_k».proof.Proof.Run0
public import Idealize.ShloMosaic.Lib.VecWindow
public import Idealize.ShloMosaic.Lib.Tactic

@[expose] public section

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-- The one word of a one-word vector. -/
abbrev word (n : S1.Idx → Elt F .i32) : BitVec 32 := n fun a => ⟨0, by fin_cases a; decide⟩

/-- Some entry is above the threshold: the branch the second and third kernels work under. -/
abbrev hot (n : BitVec 32) : Prop := Scalar.cmpi .ne (Scalar.extui (Scalar.cmpi .sgt n 0#32) : BitVec 32) 0#32 = 1#1

/-- The same at the first point, as the kernels test it. -/
abbrev hotFirst (n b : BitVec 32) : Prop :=
  Scalar.cmpi .ne (Scalar.extui (Scalar.andi (Scalar.cmpi .sgt n 0#32) (Scalar.cmpi .eq b 0#32)) : BitVec 32) 0#32 = 1#1

/-- What the scratch of the second kernel holds after a point: the normalised previous keys, if this point stores them. -/
def scr1 (i : grid1.Coords) (n : BitVec 32) (X2 X6 : S64x2048.Idx → Elt F .f32) : S64x2048.Idx → Elt F .f32 :=
  if hotFirst n (BitVec.ofNat 32 (i 0).val) then k1_pay2 X2 else X6

/-- The running index as the point finds it, reset at the first. -/
def ini1 (i : grid1.Coords) (X5 : S1x2048.Idx → Elt F .i32) : S1x2048.Idx → Elt F .i32 :=
  if first (BitVec.ofNat 32 (i 0).val) then k1_pay1 else X5

/-- The running index as the point leaves it. -/
def idx1 (i : grid1.Coords) (n : BitVec 32) (X1 : S64x512.Idx → Elt F .f32) (X3 : S1x2048.Idx → Elt F .f32) (X5 : S1x2048.Idx → Elt F .i32)
    (S : S64x2048.Idx → Elt F .f32) : S1x2048.Idx → Elt F .i32 :=
  if hot n then k1_pay3 i S X1 X3 (ini1 (F := F) i X5) else ini1 (F := F) i X5

omit [FloatOps F] [∀ e, Nonempty (Elt F e)] in
/-- A store of the whole shape under a condition, read back. -/
theorem read_if_full {κ : Kind} {sp : Space} {S : Shape} {e : EltTy} (v : View sig κ sp S e) (f : v.ty.Contents (Elt F))
    {off : Fin S.rank → ℕ} (inb : ∀ a, off a + S.size a ≤ S.size a) (w : S.Idx → Elt F e) (p : Prop) [Decidable p] :
    v.read (Elt F) (if _h : p then v.writes (Elt F) f [⟨Rect.unit off S.size inb, w⟩] else f) = if p then w else v.read (Elt F) f := by
  by_cases h : p
  · rw [dif_pos h, if_pos h]; exact View.read_writes_full v f inb w []
  · rw [dif_neg h, if_neg h]

/-- The index kernel at any point, its branches as conditionals of what it leaves. -/
theorem idx_run (c : Dev nD) (i : grid1.Coords)
    (M1 : Memref sig .tc .vmem S64x512 .f32) (h1 : M1.IsWhole) (M2 : Memref sig .tc .vmem S64x2048 .f32) (h2 : M2.IsWhole)
    (M3 : Memref sig .tc .vmem S1x2048 .f32) (h3 : M3.IsWhole) (M4 : Memref sig .tc .smem S1 .i32) (h4 : M4.IsWhole)
    (M5 : Memref sig .tc .vmem S1x2048 .i32) (h5 : M5.IsWhole) (M6 : Memref sig .tc .vmem S64x2048 .f32) (h6 : M6.IsWhole)
    (X1 : S64x512.Idx → Elt F .f32) (X2 : S64x2048.Idx → Elt F .f32) (X3 : S1x2048.Idx → Elt F .f32) (X4 : S1.Idx → Elt F .i32)
    (X5 : S1x2048.Idx → Elt F .i32) (X6 : S64x2048.Idx → Elt F .f32) (E : Set ℕ) (Q : PUnit → sProp 𝕄) :
    iprop(owns c M1 fullShare X1 ∗ owns c M2 fullShare X2 ∗ owns c M3 fullShare X3 ∗ owns c M4 fullShare X4
        ∗ owns c M5 fullShare X5 ∗ owns c M6 fullShare X6
        ∗ (iprop(owns c M1 fullShare X1 ∗ owns c M2 fullShare X2 ∗ owns c M3 fullShare X3 ∗ owns c M4 fullShare X4
            ∗ owns c M5 fullShare (idx1 i (word X4) X1 X3 X5 (scr1 i (word X4) X2 X6)) ∗ owns c M6 fullShare (scr1 i (word X4) X2 X6)) -∗ Q ⟨⟩))
      ⊢ wp frame (wpE (defs₀ (F := F)) Variants.none c none) E (cc1__idx_kernel i M1 h1 M2 h2 M3 h3 M4 h4 M5 h5 M6 h6) Q := by
  simp only [cc1__idx_kernel_eq_skeleton]; unfold cc1__idx_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  sl_exec
  sl_step
  have hr : idx_run.sl.r c M4 f4 = word X4 := by
    subst e4; exact congrFun (View.readAt_full M4.view f4 inb_S1_S1_0) _
  have c9 : (idx_run.sl.v9 c i M4 f4 = 1#1) = hotFirst (word X4) (BitVec.ofNat 32 (i 0).val) := by rw [← hr]; rfl
  have c13 : (idx_run.sl.v13 c M4 f4 = 1#1) = hot (word X4) := by rw [← hr]; rfl
  have c3 : (idx_run.sl.v3 i = 1#1) = first (BitVec.ofNat 32 (i 0).val) := rfl
  have a1 := View.readAt_full M1.view f1 inb_S64x512_S64x512_0_0
  have a2 := View.readAt_full M2.view f2 inb_S64x2048_S64x2048_0_0
  have a3 := View.readAt_full M3.view f3 inb_S1x2048_S1x2048_0_0
  rw [e1] at a1; rw [e2] at a2; rw [e3] at a3
  have r6 := read_if_full M6.view f6 inb_S64x2048_S64x2048_0_0 (k1_pay2 (View.readAt (Elt F) M2.view (Rect.unit ![0, 0] S64x2048.size inb_S64x2048_S64x2048_0_0).toLoadRect f2)) (idx_run.sl.v9 c i M4 f4 = 1#1)
  have r5 := read_if_full M5.view f5 inb_S1x2048_S1x2048_0_0 (k1_pay1 : S1x2048.Idx → Elt F .i32) (idx_run.sl.v3 i = 1#1)
  have s6 : idx_run.sl.v14 c i M2 M4 M6 f2 f4 f6 = scr1 i (word X4) X2 X6 := by
    refine (View.readAt_full M6.view _ inb_S64x2048_S64x2048_0_0).trans (r6.trans ?_)
    rw [a2, e6]; exact if_congr (iff_of_eq c9) rfl rfl
  have s5 : idx_run.sl.v43 c i M5 f5 = ini1 (F := F) i X5 := by
    refine (View.readAt_full M5.view _ inb_S1x2048_S1x2048_0_0).trans (r5.trans ?_)
    rw [e5]; exact if_congr (iff_of_eq c3) rfl rfl
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]
  · iexists _; isplitr; swap; · iexact H5
    ipureintro
    refine (read_if_full M5.view _ inb_S1x2048_S1x2048_0_0 _ (idx_run.sl.v13 c M4 f4 = 1#1)).trans ?_
    rw [s6, s5, r5, e5]
    refine if_congr (iff_of_eq c13) ?_ (if_congr (iff_of_eq c3) rfl rfl)
    exact congrArg₂ (fun z w => k1_pay3 i (scr1 i (word X4) X2 X6) z w (ini1 (F := F) i X5)) a1 a3
  iexists _; isplitr; swap; · iexact H6
  ipureintro
  refine r6.trans ?_
  rw [a2, e6]; exact if_congr (iff_of_eq c9) rfl rfl

end Cert.KernelIdeal.Bank

end
-- ==== Proof.Run2.lean ====
/-
  The body of the third kernel (the averaged update of the tile, or its copy), run once at any point; its branches are
  conditionals of what it leaves.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Value
public import proofs.«01_k».proof.Proof.Run1
public import Idealize.ShloMosaic.Lib.ValueIdxCore
public import Idealize.ShloMosaic.Lib.VecWindow
public import Idealize.ShloMosaic.Lib.Tactic

@[expose] public section

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

open Idealize.ShloMosaic.ValueIdx

/-- A tile of the result: the 64 key rows above the 512 value rows. -/
def glue {α : Type} (A : S64x512.Idx → α) (B : S512x512.Idx → α) : S576x512.Idx → α := fun y =>
  if h : (y 0).val < 64 then A (ix2 ⟨(y 0).val, h⟩ (y 1)) else B (ix2 ⟨(y 0).val - 64, by have := (y 0).isLt; change (y 0).val < 576 at this; omega⟩ (y 1))

/-- Both windows put, nothing of what was there is left. -/
theorem put_put_glue {α : Type} (x : S576x512.Idx → α) (A : S64x512.Idx → α) (B : S512x512.Idx → α) :
    VecWindow.put (s := S576x512) (VecWindow.put (s := S576x512) x ![0, 0] S64x512.size A) ![64, 0] S512x512.size B = glue A B := by
  funext y
  have h0 : (y 0).val < 576 := (y 0).isLt
  have h1 : (y 1).val < 512 := (y 1).isLt
  unfold VecWindow.put glue
  by_cases h : (y 0).val < 64
  · rw [dif_neg (fun H => by have := (H 0).1; change 64 ≤ (y 0).val at this; omega), dif_pos h, dif_pos (fun a => by
      fin_cases a
      · exact ⟨Nat.zero_le _, by change (y 0).val < 0 + 64; omega⟩
      · exact ⟨Nat.zero_le _, by change (y 1).val < 0 + 512; omega⟩)]
    exact congrArg A (funext fun a => by fin_cases a <;> rfl)
  · rw [dif_neg h, dif_pos (fun a => by
      fin_cases a
      · exact ⟨by change 64 ≤ (y 0).val; omega, by change (y 0).val < 64 + 512; omega⟩
      · exact ⟨Nat.zero_le _, by change (y 1).val < 0 + 512; omega⟩)]
    exact congrArg B (funext fun a => by fin_cases a <;> rfl)

/-- No entry is above the threshold: the branch that copies. -/
abbrev cold (n : BitVec 32) : Prop :=
  Scalar.cmpi .ne (Scalar.extui (Scalar.xori (Scalar.cmpi .sgt n 0#32) 1#1) : BitVec 32) 0#32 = 1#1

theorem cold_iff (n : BitVec 32) : cold n ↔ ¬ hot n := by
  unfold cold hot
  generalize Scalar.cmpi .sgt n 0#32 = b
  revert b; decide

/-- What the two scratches of the third kernel hold after a point. -/
def scr2k (i : grid2.Coords) (n : BitVec 32) (X6 : S64x2048.Idx → Elt F .f32) (X9 : S64x2048.Idx → Elt F .bf16) : S64x2048.Idx → Elt F .bf16 :=
  if hotFirst n (BitVec.ofNat 32 (i 0).val) then k2_pay1 X6 else X9

@[inherit_doc scr2k]
def scr2v (i : grid2.Coords) (n : BitVec 32) (X7 : S512x2048.Idx → Elt F .f32) (X10 : S512x2048.Idx → Elt F .bf16) : S512x2048.Idx → Elt F .bf16 :=
  if hotFirst n (BitVec.ofNat 32 (i 0).val) then k2_pay2 X7 else X10

/-- The first row of the tile's columns, as a word. -/
abbrev base2 (i : grid2.Coords) : BitVec 32 := Scalar.muli (BitVec.ofNat 32 (i 0).val) 512#32

/-- The key rows of an updated tile. -/
def outK (i : grid2.Coords) (X1 : S1x2048.Idx → Elt F .i32) (X2 : S1x2048.Idx → Elt F .f32) (X4 : S64x512.Idx → Elt F .f32)
    (S9 : S64x2048.Idx → Elt F .bf16) : S64x512.Idx → Elt F .f32 :=
  k2_pay3 (k2_pay7 (base2 i) X1 X2 S9) (k2_pay9 (base2 i) X1 X2) (k2_pay10 (base2 i) X1 X2) X4 (k2_pay11 X4) (k2_pay12 X4)

/-- The value rows of an updated tile. -/
def outV (i : grid2.Coords) (X1 : S1x2048.Idx → Elt F .i32) (X2 : S1x2048.Idx → Elt F .f32) (X5 : S512x512.Idx → Elt F .f32)
    (S10 : S512x2048.Idx → Elt F .bf16) : S512x512.Idx → Elt F .f32 :=
  k2_pay4 (k2_pay8 (base2 i) X1 X2 S10) (k2_pay9 (base2 i) X1 X2) (k2_pay10 (base2 i) X1 X2) X5

/-- The tile of the result. -/
def out2 (i : grid2.Coords) (n : BitVec 32) (X1 : S1x2048.Idx → Elt F .i32) (X2 : S1x2048.Idx → Elt F .f32) (X4 : S64x512.Idx → Elt F .f32)
    (X5 : S512x512.Idx → Elt F .f32) (S9 : S64x2048.Idx → Elt F .bf16) (S10 : S512x2048.Idx → Elt F .bf16) : S576x512.Idx → Elt F .f32 :=
  if hot n then glue (outK i X1 X2 X4 S9) (outV i X1 X2 X5 S10) else glue X4 X5

omit [FloatOps F] [∀ e, Nonempty (Elt F e)] in
/-- The two stores of a tile under a condition, read back. -/
theorem read_if_glue {κ : Kind} {sp : Space} (v : View sig κ sp S576x512 .f32) (f : v.ty.Contents (Elt F))
    (A : S64x512.Idx → Elt F .f32) (B : S512x512.Idx → Elt F .f32) (p : Prop) [Decidable p] :
    v.read (Elt F) (if _h : p then v.writes (Elt F) f [⟨Rect.unit ![64, 0] S512x512.size inb_S576x512_S512x512_64_0, B⟩,
        ⟨Rect.unit ![0, 0] S64x512.size inb_S576x512_S64x512_0_0, A⟩] else f) = if p then glue A B else v.read (Elt F) f := by
  by_cases h : p
  · rw [dif_pos h, if_pos h, View.read_writes_cons_put v f inb_S576x512_S512x512_64_0 B _ rfl,
      View.read_writes_cons_put v f inb_S576x512_S64x512_0_0 A [] rfl]
    exact put_put_glue _ A B
  · rw [dif_neg h, if_neg h]

/-- The update kernel at any point. -/
theorem update_run (c : Dev nD) (i : grid2.Coords)
    (M1 : Memref sig .tc .vmem S1x2048 .i32) (h1 : M1.IsWhole) (M2 : Memref sig .tc .vmem S1x2048 .f32) (h2 : M2.IsWhole)
    (M3 : Memref sig .tc .smem S1 .i32) (h3 : M3.IsWhole) (M4 : Memref sig .tc .vmem S64x512 .f32) (h4 : M4.IsWhole)
    (M5 : Memref sig .tc .vmem S512x512 .f32) (h5 : M5.IsWhole) (M6 : Memref sig .tc .vmem S64x2048 .f32) (h6 : M6.IsWhole)
    (M7 : Memref sig .tc .vmem S512x2048 .f32) (h7 : M7.IsWhole) (M8 : Memref sig .tc .vmem S576x512 .f32) (h8 : M8.IsWhole)
    (M9 : Memref sig .tc .vmem S64x2048 .bf16) (h9 : M9.IsWhole) (M10 : Memref sig .tc .vmem S512x2048 .bf16) (h10 : M10.IsWhole)
    (X1 : S1x2048.Idx → Elt F .i32) (X2 : S1x2048.Idx → Elt F .f32) (X3 : S1.Idx → Elt F .i32) (X4 : S64x512.Idx → Elt F .f32)
    (X5 : S512x512.Idx → Elt F .f32) (X6 : S64x2048.Idx → Elt F .f32) (X7 : S512x2048.Idx → Elt F .f32)
    (X9 : S64x2048.Idx → Elt F .bf16) (X10 : S512x2048.Idx → Elt F .bf16) (E : Set ℕ) (Q : PUnit → sProp 𝕄) :
    iprop(owns c M1 fullShare X1 ∗ owns c M2 fullShare X2 ∗ owns c M3 fullShare X3 ∗ owns c M4 fullShare X4
        ∗ owns c M5 fullShare X5 ∗ owns c M6 fullShare X6 ∗ owns c M7 fullShare X7 ∗ (∃ X8, owns c M8 fullShare X8)
        ∗ owns c M9 fullShare X9 ∗ owns c M10 fullShare X10
        ∗ (iprop(owns c M1 fullShare X1 ∗ owns c M2 fullShare X2 ∗ owns c M3 fullShare X3 ∗ owns c M4 fullShare X4
            ∗ owns c M5 fullShare X5 ∗ owns c M6 fullShare X6 ∗ owns c M7 fullShare X7
            ∗ owns c M8 fullShare (out2 i (word X3) X1 X2 X4 X5 (scr2k i (word X3) X6 X9) (scr2v i (word X3) X7 X10))
            ∗ owns c M9 fullShare (scr2k i (word X3) X6 X9) ∗ owns c M10 fullShare (scr2v i (word X3) X7 X10)) -∗ Q ⟨⟩))
      ⊢ wp frame (wpE (defs₀ (F := F)) Variants.none c none) E
          (cc2__update_kernel i M1 h1 M2 h2 M3 h3 M4 h4 M5 h5 M6 h6 M7 h7 M8 h8 M9 h9 M10 h10) Q := by
  simp only [cc2__update_kernel_eq_skeleton]; unfold cc2__update_kernel_skel
  simp only [k2_part1_eq_skeleton]; unfold k2_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%X8, %f8, %e8, H8⟩, ⟨%f9, %e9, H9⟩, ⟨%f10, %e10, H10⟩, Hk⟩
  sl_exec
  sl_step
  have hr : update_run.sl.r c M3 f3 = word X3 := by
    subst e3; exact congrFun (View.readAt_full M3.view f3 inb_S1_S1_0) _
  have c6 : hotFirst (update_run.sl.r c M3 f3) (BitVec.ofNat 32 (i 0).val) = hotFirst (word X3) (BitVec.ofNat 32 (i 0).val) := by rw [← hr]
  have c8 : hot (update_run.sl.r c M3 f3) = hot (word X3) := by rw [← hr]
  have c11 : cold (update_run.sl.r c M3 f3) = cold (word X3) := by rw [← hr]
  have a1 := View.readAt_full M1.view f1 inb_S1x2048_S1x2048_0_0
  have a2 := View.readAt_full M2.view f2 inb_S1x2048_S1x2048_0_0
  have a4 := View.readAt_full M4.view f4 inb_S64x512_S64x512_0_0
  have a5 := View.readAt_full M5.view f5 inb_S512x512_S512x512_0_0
  have a6 := View.readAt_full M6.view f6 inb_S64x2048_S64x2048_0_0
  have a7 := View.readAt_full M7.view f7 inb_S512x2048_S512x2048_0_0
  rw [e1] at a1; rw [e2] at a2; rw [e4] at a4; rw [e5] at a5; rw [e6] at a6; rw [e7] at a7
  have r9 := read_if_full M9.view f9 inb_S64x2048_S64x2048_0_0 (k2_pay1 (View.readAt (Elt F) M6.view (Rect.unit ![0, 0] S64x2048.size inb_S64x2048_S64x2048_0_0).toLoadRect f6)) (hotFirst (update_run.sl.r c M3 f3) (BitVec.ofNat 32 (i 0).val))
  have r10 := read_if_full M10.view f10 inb_S512x2048_S512x2048_0_0 (k2_pay2 (View.readAt (Elt F) M7.view (Rect.unit ![0, 0] S512x2048.size inb_S512x2048_S512x2048_0_0).toLoadRect f7)) (hotFirst (update_run.sl.r c M3 f3) (BitVec.ofNat 32 (i 0).val))
  rw [a6, e9] at r9; rw [a7, e10] at r10
  replace r9 := r9.trans (if_congr (iff_of_eq c6) rfl rfl)
  replace r10 := r10.trans (if_congr (iff_of_eq c6) rfl rfl)
  have s9 : update_run.sl.v31 c i M3 M6 M9 f3 f6 f9 = scr2k i (word X3) X6 X9 := by
    refine (View.readAt_full M9.view _ inb_S64x2048_S64x2048_0_0).trans (Eq.trans ?_ r9)
    rw [a6]
  have s10 : update_run.sl.v33 c i M3 M7 M10 f3 f7 f10 = scr2v i (word X3) X7 X10 := by
    refine (View.readAt_full M10.view _ inb_S512x2048_S512x2048_0_0).trans (Eq.trans ?_ r10)
    rw [a7]
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  isplitl [H7]; · iexists f7; isplitr; · ipureintro; exact e7
                  iexact H7
  isplitl [H8]
  · iexists _; isplitr; swap; · iexact H8
    ipureintro
    refine (read_if_glue M8.view _ _ _ (cold (update_run.sl.r c M3 f3))).trans ?_
    unfold out2
    by_cases hh : hot (word X3)
    · rw [if_neg (by rw [c11, cold_iff]; exact not_not_intro hh), if_pos hh]
      refine (read_if_glue M8.view f8 _ _ (hot (update_run.sl.r c M3 f3))).trans ?_
      rw [if_pos (by rw [c8]; exact hh)]
      dsimp only
      rw [s9, s10]
      refine congrArg₂ glue ?_ ?_
      · refine Eq.trans ?_ (congrArg (fun z => outK i X1 X2 z (scr2k i (word X3) X6 X9)) a4)
        exact congrArg₂ (fun x y => outK i x y _ (scr2k i (word X3) X6 X9)) a1 a2
      · refine Eq.trans ?_ (congrArg (fun z => outV i X1 X2 z (scr2v i (word X3) X7 X10)) a5)
        exact congrArg₂ (fun x y => outV i x y _ (scr2v i (word X3) X7 X10)) a1 a2
    · rw [if_pos (by rw [c11, cold_iff]; exact hh), if_neg hh]
      exact congrArg₂ glue a4 a5
  isplitl [H9]
  · iexists _; isplitr; swap; · iexact H9
    ipureintro
    refine Eq.trans ?_ r9
    rw [a6]
  iexists _; isplitr; swap; · iexact H10
  ipureintro
  refine Eq.trans ?_ r10
  rw [a7]

end Cert.KernelIdeal.Bank

end
-- ==== Proof.Pad.lean ====
/-
  The padding of a tile past the last column reaches neither search kernel's result: the tile is masked before
  anything is computed of it.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Run2
public import Idealize.ShloMosaic.Lib.Pipeline.FrameBody
public import Idealize.ShloMosaic.Lib.WordCmp
public import Idealize.ShloMosaic.Lib.Pipeline.Value
public import Idealize.ShloMosaic.Lib.VecWindow
public import Idealize.ShloMosaic.Lib.Tactic

@[expose] public section

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-- Which columns of tile `n` lie in the array, as both search kernels compute it. -/
abbrev maskOf (n : ℕ) : IVec S64x512 1 :=
  cmpi .slt (addi (iota .tc S64x512 32 [1] iota_S64x512_d1_w32) (broadcast S64x512 (Scalar.muli (BitVec.ofNat 32 n) 512#32)))
    (broadcast S64x512 20000#32)

/-- A column of the tile lies in the array exactly when its number is below 20000. -/
theorem maskOf_apply (n : ℕ) (hn : n < 40) (j : S64x512.Idx) :
    maskOf n j = BitVec.ofBool (decide (512 * n + (j 1).val < 20000)) := by
  have hj : (j 1).val < 512 := (j 1).isLt
  show IntOp.cmpi .slt (IntOp.addi (iota .tc S64x512 32 [1] iota_S64x512_d1_w32 j) (IntOp.muli (BitVec.ofNat 32 n) 512#32)) 20000#32 = _
  rw [iota_single_apply, show (512#32 : BitVec 32) = BitVec.ofNat 32 512 from rfl, show (20000#32 : BitVec 32) = BitVec.ofNat 32 20000 from rfl,
    WordCmp.muli_ofNat, WordCmp.addi_ofNat, WordCmp.cmpi_slt_ofNat (by omega) (by omega), show (j 1).val + n * 512 = 512 * n + (j 1).val by omega]

/-- Tiles that agree on the columns of the array are masked alike. -/
theorem select_mask (n : ℕ) (hn : n < 40) {X X' : S64x512.Idx → Elt F .f32} (Z : S64x512.Idx → Elt F .f32)
    (h : ∀ j : S64x512.Idx, 512 * n + (j 1).val < 20000 → X j = X' j) :
    select (maskOf n) X Z = select (maskOf n) X' Z := by
  funext j
  show (if maskOf n j = 1#1 then X j else Z j) = (if maskOf n j = 1#1 then X' j else Z j)
  rw [maskOf_apply n hn]
  by_cases hj : 512 * n + (j 1).val < 20000
  · rw [h j hj]
  · simp [hj]

/-- The running maximum does not depend on the padding. -/
theorem k0_pay3_congr (i : grid0.Coords) (S : S64x2048.Idx → Elt F .f32) {X X' : S64x512.Idx → Elt F .f32} (M : S1x2048.Idx → Elt F .f32)
    (h : ∀ j : S64x512.Idx, 512 * (i 0).val + (j 1).val < 20000 → X j = X' j) : k0_pay3 i S X M = k0_pay3 i S X' M := by
  have e := select_mask (i 0).val (i 0).isLt (broadcast S64x512 (Scalar.ofBits .f32 0x00000000#32 : F .f32)) h
  unfold k0_pay3
  dsimp only
  exact congrArg (fun v12 : FVec F S64x512 .f32 => maximumf (shapeCast S1x2048 M shapeCasts_S1x2048_S1x2048)
    (shapeCast S1x2048 (multiReduction .maximumf [0] S2048 (matmul dot_S64x512_S64x2048_S512x2048_0_0_1_1_n_n none
      (divf v12 (broadcastTo S64x512 (maximumf (sqrt (shapeCast S1x512 (multiReduction .add [0] S512 (mulf v12 v12) 0x00000000#32 reduces_S64x512_S512 (.inl rfl) rfl) shapeCasts_S512_S1x512))
        (broadcast S1x512 (Scalar.ofBits .f32 0x2B8CBCCC#32 : F .f32))) broadcasts_S1x512_S64x512)) S (constant S512x2048 .f32 0x00000000#32))
      0xFF800000#32 reduces_S512x2048_S2048 (.inl rfl) rfl) shapeCasts_S2048_S1x2048)) e

/-- The first row at the maximum does not depend on the padding. -/
theorem k1_pay3_congr (i : grid1.Coords) (S : S64x2048.Idx → Elt F .f32) {X X' : S64x512.Idx → Elt F .f32} (M : S1x2048.Idx → Elt F .f32)
    (I : S1x2048.Idx → Elt F .i32)
    (h : ∀ j : S64x512.Idx, 512 * (i 0).val + (j 1).val < 20000 → X j = X' j) : k1_pay3 i S X M I = k1_pay3 i S X' M I := by
  have e := select_mask (i 0).val (i 0).isLt (broadcast S64x512 (Scalar.ofBits .f32 0x00000000#32 : F .f32)) h
  unfold k1_pay3
  dsimp only
  rw [e]

/-- The part of a block that a clipped transfer moves, on one axis. -/
theorem lt_extent {ix k d j : ℕ} (hj : j < k) : j < (Pipeline.Clip.of ix k d).extent k ↔ ix * k + j < d := by
  unfold Pipeline.Clip.of
  split
  · next h => rw [Nat.succ_mul] at h; constructor <;> intro _ <;> first | omega | exact hj
  · show j < d - ix * k ↔ _; omega

/-- On both axes, for blocks of 512 columns of an array of 20000. -/
theorem moved_cols {R n : ℕ} (hn : n < 40) (ix : Fin 2 → ℕ) (h0 : ix 0 = 0) (h1 : ix 1 = (BitVec.ofNat 32 n).toNat) (j0 : Fin R) (j1 : Fin 512) :
    ((j0.val < (Pipeline.Clip.of (ix 0) R R).extent R) ∧ (j1.val < (Pipeline.Clip.of (ix 1) 512 20000).extent 512))
      ↔ 512 * n + j1.val < 20000 := by
  rw [lt_extent j0.isLt, lt_extent j1.isLt, h0, h1, BitVec.toNat_ofNat, Nat.mod_eq_of_lt (by omega)]
  have := j0.isLt
  omega

theorem moved0_0 (i : grid0.Coords) (j : S64x512.Idx) : win0_0.moved i j = true ↔ 512 * (i 0).val + (j 1).val < 20000 := by
  rw [Window.moved_iff]
  exact (Fin.forall_fin_two (p := fun a => (j a).val < win0_0.xsize i a)).trans (moved_cols (i 0).isLt (cc0_transform_0 i) rfl rfl (j 0) (j 1))

theorem moved1_0 (i : grid1.Coords) (j : S64x512.Idx) : win1_0.moved i j = true ↔ 512 * (i 0).val + (j 1).val < 20000 := by
  rw [Window.moved_iff]
  exact (Fin.forall_fin_two (p := fun a => (j a).val < win1_0.xsize i a)).trans (moved_cols (i 0).isLt (cc1_transform_0 i) rfl rfl (j 0) (j 1))

theorem moved2_3 (i : grid2.Coords) (j : S64x512.Idx) : win2_3.moved i j = true ↔ 512 * (i 0).val + (j 1).val < 20000 := by
  rw [Window.moved_iff]
  exact (Fin.forall_fin_two (p := fun a => (j a).val < win2_3.xsize i a)).trans (moved_cols (i 0).isLt (cc2_transform_3 i) rfl rfl (j 0) (j 1))

theorem moved2_4 (i : grid2.Coords) (j : S512x512.Idx) : win2_4.moved i j = true ↔ 512 * (i 0).val + (j 1).val < 20000 := by
  rw [Window.moved_iff]
  exact (Fin.forall_fin_two (p := fun a => (j a).val < win2_4.xsize i a)).trans (moved_cols (i 0).isLt (cc2_transform_4 i) rfl rfl (j 0) (j 1))

theorem moved2_7 (i : grid2.Coords) (j : S576x512.Idx) : win2_7.moved i j = true ↔ 512 * (i 0).val + (j 1).val < 20000 := by
  rw [Window.moved_iff]
  exact (Fin.forall_fin_two (p := fun a => (j a).val < win2_7.xsize i a)).trans (moved_cols (i 0).isLt (cc2_transform_7 i) rfl rfl (j 0) (j 1))

/-- A point's coordinate is its number. -/
theorem coords0 (t : Fin grid0.N) : (grid0.coords t 0).val = t.val := by
  rw [Pipeline.Grid.coords_val t 0 (S := 1) (B := 40) (by decide) rfl]
  have := lt_of_lt_of_eq t.isLt N_0; omega

theorem coords1 (t : Fin grid1.N) : (grid1.coords t 0).val = t.val := by
  rw [Pipeline.Grid.coords_val t 0 (S := 1) (B := 40) (by decide) rfl]
  have := lt_of_lt_of_eq t.isLt N_1; omega

theorem coords2 (t : Fin grid2.N) : (grid2.coords t 0).val = t.val := by
  rw [Pipeline.Grid.coords_val t 0 (S := 1) (B := 40) (by decide) rfl]
  have := lt_of_lt_of_eq t.isLt N_2; omega

/-- The first-point branch is taken at the first point only. -/
theorem first_iff (n : ℕ) (hn : n < 40) : first (BitVec.ofNat 32 n) ↔ n = 0 :=
  (by decide : ∀ k : Fin 40, first (BitVec.ofNat 32 k.val) ↔ k.val = 0) ⟨n, hn⟩

/-- The branch that fills a scratch is taken at the first point, if any entry is above the threshold. -/
theorem hotFirst_iff (n : BitVec 32) (k : ℕ) (hk : k < 40) : hotFirst n (BitVec.ofNat 32 k) ↔ hot n ∧ k = 0 := by
  rw [← first_iff k hk]
  unfold hotFirst hot first
  generalize Scalar.cmpi .sgt n 0#32 = p
  generalize Scalar.cmpi .eq (BitVec.ofNat 32 k) 0#32 = q
  revert p q; decide

end Cert.KernelIdeal.Bank

end
-- ==== Proof.Dat0.lean ====
/-
  The first kernel's region: what each of its buffers holds after each point, and the body's obligation to it.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Pad
public import Idealize.ShloMosaic.Lib.Pipeline.FrameBody
public import Idealize.ShloMosaic.Lib.WordCmp
public import Idealize.ShloMosaic.Lib.Pipeline.Value
public import Idealize.ShloMosaic.Lib.VecWindow
public import Idealize.ShloMosaic.Lib.Tactic

@[expose] public section

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (V : (c : Dev nD) → (b : Ref sig .tc) → Buf (Elt F) ((c : Thread nD τ).loc b))

/-- The block of keys fetched at a point: the tile's columns that lie in the array. -/
abbrev keysBlk0 (c : Dev nD) (t : Fin cfg0.N) : (win0_0.xblock (grid0.coords t)).Idx → Elt F .f32 :=
  (win0_0.blk t).view.read (Elt F) (V c main_arg0)

/-- The tile of keys, padded with anything. -/
def keys0 (c : Dev nD) (t : Fin cfg0.N) : S64x512.Idx → Elt F .f32 :=
  win0_0.fill (grid0.coords t) (fun _ => Classical.arbitrary _) (keysBlk0 V c t)

/-- The previous keys of the bank. -/
def pk0 (c : Dev nD) (t : Fin cfg0.N) : S64x2048.Idx → Elt F .f32 := (win0_1.blk t).view.read (Elt F) (V c main_arg2)

/-- The first point. -/
abbrev z0 : Fin cfg0.N := ⟨0, by decide⟩

theorem pk0_eq (c : Dev nD) (t : Fin cfg0.N) : pk0 V c t = pk0 V c z0 := rfl

/-- The running maximum after point `n`. -/
def mx0 (c : Dev nD) : (n : ℕ) → n < cfg0.N → S1x2048.Idx → Elt F .f32
  | 0, h => k0_pay3 (grid0.coords ⟨0, h⟩) (k0_pay1 (pk0 V c z0)) (keys0 V c ⟨0, h⟩) k0_pay2
  | n + 1, h => k0_pay3 (grid0.coords ⟨n + 1, h⟩) (k0_pay1 (pk0 V c z0)) (keys0 V c ⟨n + 1, h⟩) (mx0 c n (Nat.lt_of_succ_lt h))

/-- The scoped buffers beside the scratch. -/
theorem rest0_ex (c : Dev nD) : ∃ R : sProp 𝕄, Pipeline.scopedRest (Ix := Unit) (Name := ℕ) (U := UU) (Lvl := ℕ) (Val := Elt F) spec0 c
    = iprop((∃ f : Buf (Elt F) ((c : Thread nD τ).loc cc0_scratch0), ((c : Thread nD τ).loc cc0_scratch0) ↦{fullShare} f) ∗ R) :=
  ⟨_, scopedRest0_eq c⟩
def rest0 (c : Dev nD) : sProp 𝕄 := Classical.choose (rest0_ex (F := F) c)
theorem rest0_eq (c : Dev nD) : Pipeline.scopedRest (Ix := Unit) (Name := ℕ) (U := UU) (Lvl := ℕ) (Val := Elt F) spec0 c
    = iprop((∃ f : Buf (Elt F) ((c : Thread nD τ).loc cc0_scratch0), ((c : Thread nD τ).loc cc0_scratch0) ↦{fullShare} f) ∗ rest0 (F := F) c) :=
  Classical.choose_spec (rest0_ex (F := F) c)

/-- The region's data: the arrays as it finds them, what each buffer holds after each point, the scratch holding the
    normalised previous keys from the first point on. -/
def dat0 (c : Dev nD) : Dat τ (Elt F) Unit ℕ UU ℕ cfg0 c where
  A w := V c (Pipeline.arrRef spec0 w)
  after w t := match w with
    | ⟨0, _⟩ => keys0 V c t
    | ⟨1, _⟩ => pk0 V c t
    | ⟨2, _⟩ => mx0 V c t.val t.isLt
    | ⟨3, _⟩ => countOf (mx0 V c t.val t.isLt)
  Φ t := iprop((∃ X : S64x2048.Idx → Elt F .f32, ⌜t.val ≠ 0 → X = k0_pay1 (pk0 V c z0)⌝
    ∗ owns c (Memref.whole cc0_scratch0) fullShare X) ∗ rest0 (F := F) c)
  q _ := fullShare
  owed _ := 0

/-- A tile however padded agrees with the tile on the array's columns. -/
theorem fill0_agree (t : Fin cfg0.N) (d d' : S64x512.Idx → Elt F .f32) (g : (win0_0.xblock (grid0.coords t)).Idx → Elt F .f32) (j : S64x512.Idx)
    (h : 512 * (grid0.coords t 0).val + (j 1).val < 20000) : win0_0.fill (grid0.coords t) d g j = win0_0.fill (grid0.coords t) d' g j := by
  have hm := (moved0_0 (grid0.coords t) j).mpr h
  unfold Window.fill
  rw [dif_pos hm, dif_pos hm]

theorem before0_0 (c : Dev nD) (t : Fin cfg0.N) (d) : (dat0 V c).before 0 t d = win0_0.fill (grid0.coords t) d (keysBlk0 V c t) :=
  (dat0 V c).before_fetched 0 t (fetch0_0 t) d

theorem before0_1 (c : Dev nD) (t : Fin cfg0.N) (d) : (dat0 V c).before 1 t d = pk0 V c z0 :=
  (dat0 V c).before_in_eq_fetched 1 rfl (fun _ => rfl) (fun _ _ _ => rfl) (fun _ => rfl) t d

theorem before0_2 (c : Dev nD) (t : Fin cfg0.N) (ht : t.val ≠ 0) (d) :
    (dat0 V c).before 2 t d = mx0 V c (t.val - 1) (Nat.lt_of_le_of_lt (Nat.sub_le _ _) t.isLt) :=
  (dat0 V c).before_out_kept 2 rfl t ht (by
    rw [← Bool.not_eq_true, flush0_2]; have := lt_of_lt_of_eq t.isLt N_0; simp only; omega) (fun _ => rfl) (fun _ _ => rfl) d

theorem defs₀_row0 (t : Fin cfg0.N) : defs₀ (F := F) .tc cfg0.body (cfg0.bodyArgs t (cfg0.slots t)) = bodyAt0 t := by
  unfold defs₀; rw [Defs.onTc_tc]

/-- The running maximum at a point, whatever the tile is padded with. -/
theorem mx0_first (c : Dev nD) (t : Fin cfg0.N) (ht : t.val = 0) (d : S64x512.Idx → Elt F .f32) :
    k0_pay3 (grid0.coords t) (k0_pay1 (pk0 V c z0)) (win0_0.fill (grid0.coords t) d (keysBlk0 V c t)) k0_pay2 = mx0 V c t.val t.isLt := by
  obtain ⟨n, h⟩ := t
  obtain rfl : n = 0 := ht
  exact k0_pay3_congr _ _ _ fun j hj => fill0_agree _ _ _ _ j hj

theorem mx0_later (c : Dev nD) (t : Fin cfg0.N) (ht : t.val ≠ 0) (d : S64x512.Idx → Elt F .f32) :
    k0_pay3 (grid0.coords t) (k0_pay1 (pk0 V c z0)) (win0_0.fill (grid0.coords t) d (keysBlk0 V c t))
      (mx0 V c (t.val - 1) (Nat.lt_of_le_of_lt (Nat.sub_le _ _) t.isLt)) = mx0 V c t.val t.isLt := by
  obtain ⟨n, h⟩ := t
  obtain ⟨m, rfl⟩ : ∃ m, n = m + 1 := ⟨n - 1, by simp only at ht; omega⟩
  exact k0_pay3_congr _ _ _ fun j hj => fill0_agree _ _ _ _ j hj

set_option maxRecDepth 20000 in
/-- The body meets the data at every point. -/
theorem body0 (c : Dev nD) : Pipeline.BodyObligationLoose (dat0 V c) (defs₀ (F := F)) Variants.none () Set.univ := fun t => by
  rw [bigSep_W0, bigSep_W0, defs₀_row0]
  have hc := coords0 t
  have h40 := lt_of_lt_of_eq t.isLt N_0
  by_cases ht : t.val = 0
  · have hb := max_first (F := F) c (grid0.coords t) (by rw [hc, first_iff _ h40]; exact ht) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)
    show iprop(((∃ X : S64x2048.Idx → Elt F .f32, ⌜t.val ≠ 0 → X = k0_pay1 (pk0 V c z0)⌝
        ∗ owns c (Memref.whole cc0_scratch0) fullShare X) ∗ rest0 (F := F) c) ∗ (dat0 V c).owesAt () t.castSucc
        ∗ (∃ d, owns c (st0_0 t) fullShare ((dat0 V c).before 0 t d)) ∗ (∃ d, owns c (st0_1 t) fullShare ((dat0 V c).before 1 t d))
        ∗ (∃ d, owns c (st0_2 t) fullShare ((dat0 V c).before 2 t d)) ∗ (∃ d, owns c (st0_3 t) fullShare ((dat0 V c).before 3 t d)))
      ⊢ wp frame (wpE (defs₀ (F := F)) Variants.none c none) Set.univ (bodyAt0 t) fun _ =>
        iprop(((∃ X : S64x2048.Idx → Elt F .f32, ⌜t.val + 1 ≠ 0 → X = k0_pay1 (pk0 V c z0)⌝
        ∗ owns c (Memref.whole cc0_scratch0) fullShare X) ∗ rest0 (F := F) c) ∗ (dat0 V c).owesAt () t.castSucc
        ∗ (∃ d, owns c (st0_0 t) fullShare (win0_0.fill (grid0.coords t) d (win0_0.cut (grid0.coords t) (keys0 V c t))))
        ∗ owns c (st0_1 t) fullShare (pk0 V c z0)
        ∗ owns c (st0_2 t) fullShare (mx0 V c t.val t.isLt) ∗ owns c (st0_3 t) fullShare (countOf (mx0 V c t.val t.isLt)))
    iintro ⟨⟨⟨%X, -, H5⟩, HR⟩, HO, ⟨%d1, H1⟩, ⟨%d2, H2⟩, ⟨%d3, H3⟩, ⟨%d4, H4⟩⟩
    rw [before0_0, before0_1]
    iapply (hb _ _ Set.univ _)
    isplitl [H1]; · iexact H1
    isplitl [H2]; · iexact H2
    isplitl [H3]; · iexists _; iexact H3
    isplitl [H4]; · iexists _; iexact H4
    isplitl [H5]; · iexists _; iexact H5
    rw [mx0_first V c t ht]
    iintro ⟨H1, H2, H3, H4, H5⟩
    isplitl [H5 HR]
    · isplitl [H5]; · iexists _; isplitr; · ipureintro; exact fun _ => rfl
                      iexact H5
      iexact HR
    isplitl [HO]; · iexact HO
    isplitl [H1]
    · iexists d1; unfold keys0; rw [Window.cut_fill]; iexact H1
    isplitl [H2]; · iexact H2
    isplitl [H3]; · iexact H3
    iexact H4
  · have hb := max_later (F := F) c (grid0.coords t) (by rw [hc, first_iff _ h40]; exact ht) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)
    show iprop(((∃ X : S64x2048.Idx → Elt F .f32, ⌜t.val ≠ 0 → X = k0_pay1 (pk0 V c z0)⌝
        ∗ owns c (Memref.whole cc0_scratch0) fullShare X) ∗ rest0 (F := F) c) ∗ (dat0 V c).owesAt () t.castSucc
        ∗ (∃ d, owns c (st0_0 t) fullShare ((dat0 V c).before 0 t d)) ∗ (∃ d, owns c (st0_1 t) fullShare ((dat0 V c).before 1 t d))
        ∗ (∃ d, owns c (st0_2 t) fullShare ((dat0 V c).before 2 t d)) ∗ (∃ d, owns c (st0_3 t) fullShare ((dat0 V c).before 3 t d)))
      ⊢ wp frame (wpE (defs₀ (F := F)) Variants.none c none) Set.univ (bodyAt0 t) fun _ =>
        iprop(((∃ X : S64x2048.Idx → Elt F .f32, ⌜t.val + 1 ≠ 0 → X = k0_pay1 (pk0 V c z0)⌝
        ∗ owns c (Memref.whole cc0_scratch0) fullShare X) ∗ rest0 (F := F) c) ∗ (dat0 V c).owesAt () t.castSucc
        ∗ (∃ d, owns c (st0_0 t) fullShare (win0_0.fill (grid0.coords t) d (win0_0.cut (grid0.coords t) (keys0 V c t))))
        ∗ owns c (st0_1 t) fullShare (pk0 V c z0)
        ∗ owns c (st0_2 t) fullShare (mx0 V c t.val t.isLt) ∗ owns c (st0_3 t) fullShare (countOf (mx0 V c t.val t.isLt)))
    iintro ⟨⟨⟨%X, %hX, H5⟩, HR⟩, HO, ⟨%d1, H1⟩, ⟨%d2, H2⟩, ⟨%d3, H3⟩, ⟨%d4, H4⟩⟩
    rw [before0_0, before0_1, before0_2 V c t ht, hX ht]
    iapply (hb _ _ _ _ Set.univ _)
    isplitl [H1]; · iexact H1
    isplitl [H2]; · iexact H2
    isplitl [H3]; · iexact H3
    isplitl [H4]; · iexists _; iexact H4
    isplitl [H5]; · iexact H5
    rw [mx0_later V c t ht]
    iintro ⟨H1, H2, H3, H4, H5⟩
    isplitl [H5 HR]
    · isplitl [H5]; · iexists _; isplitr; · ipureintro; exact fun _ => rfl
                      iexact H5
      iexact HR
    isplitl [HO]; · iexact HO
    isplitl [H1]
    · iexists d1; unfold keys0; rw [Window.cut_fill]; iexact H1
    isplitl [H2]; · iexact H2
    isplitl [H3]; · iexact H3
    iexact H4

end Cert.KernelIdeal.Bank

end
-- ==== Proof.Dat1.lean ====
/-
  The second kernel's region: what each of its buffers holds after each point, and the body's obligation to it.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Pad
public import Idealize.ShloMosaic.Lib.Pipeline.FrameBody
public import Idealize.ShloMosaic.Lib.WordCmp
public import Idealize.ShloMosaic.Lib.Pipeline.Value
public import Idealize.ShloMosaic.Lib.VecWindow
public import Idealize.ShloMosaic.Lib.Tactic

@[expose] public section

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (V : (c : Dev nD) → (b : Ref sig .tc) → Buf (Elt F) ((c : Thread nD τ).loc b))

/-- The block of keys fetched at a point: the tile's columns that lie in the array. -/
abbrev keysBlk1 (c : Dev nD) (t : Fin cfg1.N) : (win1_0.xblock (grid1.coords t)).Idx → Elt F .f32 :=
  (win1_0.blk t).view.read (Elt F) (V c main_arg0)

/-- The tile of keys, padded with anything. -/
def keys1 (c : Dev nD) (t : Fin cfg1.N) : S64x512.Idx → Elt F .f32 :=
  win1_0.fill (grid1.coords t) (fun _ => Classical.arbitrary _) (keysBlk1 V c t)

/-- The first point. -/
abbrev z1 : Fin cfg1.N := ⟨0, by decide⟩

/-- The previous keys of the bank, the maxima and the number of them above the threshold, as the region finds them. -/
def pk1 (c : Dev nD) : S64x2048.Idx → Elt F .f32 := (win1_1.blk z1).view.read (Elt F) (V c main_arg2)
@[inherit_doc pk1] def mx1 (c : Dev nD) : S1x2048.Idx → Elt F .f32 := (win1_2.blk z1).view.read (Elt F) (V c main_v0_0)
@[inherit_doc pk1] def nc1 (c : Dev nD) : S1.Idx → Elt F .i32 := (win1_3.blk z1).view.read (Elt F) (V c main_v0_1)

/-- The running index after point `n`. -/
def idxAt (c : Dev nD) : (n : ℕ) → n < cfg1.N → S1x2048.Idx → Elt F .i32
  | 0, h => idx1 (grid1.coords ⟨0, h⟩) (word (nc1 V c)) (keys1 V c ⟨0, h⟩) (mx1 V c) k1_pay1 (k1_pay2 (pk1 V c))
  | n + 1, h => idx1 (grid1.coords ⟨n + 1, h⟩) (word (nc1 V c)) (keys1 V c ⟨n + 1, h⟩) (mx1 V c) (idxAt c n (Nat.lt_of_succ_lt h)) (k1_pay2 (pk1 V c))

/-- The scoped buffers beside the scratch. -/
theorem rest1_ex (c : Dev nD) : ∃ R : sProp 𝕄, Pipeline.scopedRest (Ix := Unit) (Name := ℕ) (U := UU) (Lvl := ℕ) (Val := Elt F) spec1 c
    = iprop((∃ f : Buf (Elt F) ((c : Thread nD τ).loc cc1_scratch0), ((c : Thread nD τ).loc cc1_scratch0) ↦{fullShare} f) ∗ R) :=
  ⟨_, Pipeline.scopedRest_eq_of_list spec1 c [cc1_scratch0, cc0_stg0_0, cc0_stg0_1, cc0_stg1_0, cc0_stg2_0, cc0_scratch0, cc2_stg0_0, cc2_stg1_0, cc2_stg3_0, cc2_stg3_1, cc2_stg4_0, cc2_stg4_1, cc2_stg5_0, cc2_stg6_0, cc2_stg7_0, cc2_stg7_1, cc2_scratch0, cc2_scratch1, cc0_stg3_0, cc2_stg2_0] (by decide) (by decide)⟩
def rest1 (c : Dev nD) : sProp 𝕄 := Classical.choose (rest1_ex (F := F) c)
theorem rest1_eq (c : Dev nD) : Pipeline.scopedRest (Ix := Unit) (Name := ℕ) (U := UU) (Lvl := ℕ) (Val := Elt F) spec1 c
    = iprop((∃ f : Buf (Elt F) ((c : Thread nD τ).loc cc1_scratch0), ((c : Thread nD τ).loc cc1_scratch0) ↦{fullShare} f) ∗ rest1 (F := F) c) :=
  Classical.choose_spec (rest1_ex (F := F) c)

/-- The region's data: the arrays as it finds them, what each buffer holds after each point, the scratch holding the
    normalised previous keys from the first point on, if any entry is above the threshold. -/
def dat1 (c : Dev nD) : Dat τ (Elt F) Unit ℕ UU ℕ cfg1 c where
  A w := V c (Pipeline.arrRef spec1 w)
  after w t := match w with
    | ⟨0, _⟩ => keys1 V c t
    | ⟨1, _⟩ => pk1 V c
    | ⟨2, _⟩ => mx1 V c
    | ⟨3, _⟩ => nc1 V c
    | ⟨4, _⟩ => idxAt V c t.val t.isLt
  Φ t := iprop((∃ X : S64x2048.Idx → Elt F .f32, ⌜t.val ≠ 0 → hot (word (nc1 V c)) → X = k1_pay2 (pk1 V c)⌝
    ∗ owns c (Memref.whole cc1_scratch0) fullShare X) ∗ rest1 (F := F) c)
  q _ := fullShare
  owed _ := 0

/-- A tile however padded agrees with the tile on the array's columns. -/
theorem fill1_agree (t : Fin cfg1.N) (d d' : S64x512.Idx → Elt F .f32) (g : (win1_0.xblock (grid1.coords t)).Idx → Elt F .f32) (j : S64x512.Idx)
    (h : 512 * (grid1.coords t 0).val + (j 1).val < 20000) : win1_0.fill (grid1.coords t) d g j = win1_0.fill (grid1.coords t) d' g j := by
  have hm := (moved1_0 (grid1.coords t) j).mpr h
  unfold Window.fill
  rw [dif_pos hm, dif_pos hm]

theorem before1_0 (c : Dev nD) (t : Fin cfg1.N) (d) : (dat1 V c).before 0 t d = win1_0.fill (grid1.coords t) d (keysBlk1 V c t) :=
  (dat1 V c).before_fetched 0 t (fetch1_0 t) d

theorem before1_1 (c : Dev nD) (t : Fin cfg1.N) (d) : (dat1 V c).before 1 t d = pk1 V c :=
  (dat1 V c).before_in_eq_fetched 1 rfl (fun _ => rfl) (fun _ _ _ => rfl) (fun _ => rfl) t d

theorem before1_2 (c : Dev nD) (t : Fin cfg1.N) (d) : (dat1 V c).before 2 t d = mx1 V c :=
  (dat1 V c).before_in_eq_fetched 2 rfl (fun _ => rfl) (fun _ _ _ => rfl) (fun _ => rfl) t d

theorem before1_3 (c : Dev nD) (t : Fin cfg1.N) (d) : (dat1 V c).before 3 t d = nc1 V c :=
  (dat1 V c).before_in_eq_fetched 3 rfl (fun _ => rfl) (fun _ _ _ => rfl) (fun _ => rfl) t d

theorem before1_4 (c : Dev nD) (t : Fin cfg1.N) (ht : t.val ≠ 0) (d) :
    (dat1 V c).before 4 t d = idxAt V c (t.val - 1) (Nat.lt_of_le_of_lt (Nat.sub_le _ _) t.isLt) :=
  (dat1 V c).before_out_kept 4 rfl t ht (by
    rw [← Bool.not_eq_true, flush1_4]; have := lt_of_lt_of_eq t.isLt N_1; simp only; omega) (fun _ => rfl) (fun _ _ => rfl) d

theorem defs₀_row1 (t : Fin cfg1.N) : defs₀ (F := F) .tc cfg1.body (cfg1.bodyArgs t (cfg1.slots t)) = bodyAt1 t := by
  unfold defs₀; rw [Defs.onTc_tc]

/-- The running index depends on the tile's columns in the array only, and on the scratch only under the branch. -/
theorem idx1_congr (i : grid1.Coords) (n : BitVec 32) {X X' : S64x512.Idx → Elt F .f32} (M : S1x2048.Idx → Elt F .f32)
    {I I' : S1x2048.Idx → Elt F .i32} {S S' : S64x2048.Idx → Elt F .f32}
    (hX : ∀ j : S64x512.Idx, 512 * (i 0).val + (j 1).val < 20000 → X j = X' j)
    (hI : (i 0).val ≠ 0 → I = I') (hS : hot n → S = S') : idx1 i n X M I S = idx1 i n X' M I' S' := by
  have hini : ini1 (F := F) i I = ini1 (F := F) i I' := by
    unfold ini1
    by_cases h : (i 0).val = 0
    · rw [if_pos ((first_iff _ (i 0).isLt).mpr h), if_pos ((first_iff _ (i 0).isLt).mpr h)]
    · rw [hI h]
  unfold idx1
  rw [hini]
  by_cases hh : hot n
  · rw [if_pos hh, if_pos hh, hS hh, k1_pay3_congr i S' M _ hX]
  · rw [if_neg hh, if_neg hh]

/-- The scratch after a point, where it matters. -/
theorem scr1_hot (t : Fin cfg1.N) (n : BitVec 32) (P X : S64x2048.Idx → Elt F .f32)
    (hX : t.val ≠ 0 → hot n → X = k1_pay2 P) (hh : hot n) : scr1 (grid1.coords t) n P X = k1_pay2 P := by
  have hc := coords1 t
  unfold scr1
  by_cases ht : t.val = 0
  · rw [if_pos ((hotFirst_iff n _ (grid1.coords t 0).isLt).mpr ⟨hh, hc.trans ht⟩)]
  · rw [if_neg (fun H => ht (hc.symm.trans ((hotFirst_iff n _ (grid1.coords t 0).isLt).mp H).2)), hX ht hh]

/-- The running index at a point, whatever the tile is padded with and whatever the scratch held before. -/
theorem idxAt_step (c : Dev nD) (t : Fin cfg1.N) (d : S64x512.Idx → Elt F .f32) (I : S1x2048.Idx → Elt F .i32) (X : S64x2048.Idx → Elt F .f32)
    (hI : ∀ ht : t.val ≠ 0, I = idxAt V c (t.val - 1) (Nat.lt_of_le_of_lt (Nat.sub_le _ _) t.isLt))
    (hX : t.val ≠ 0 → hot (word (nc1 V c)) → X = k1_pay2 (pk1 V c)) :
    idx1 (grid1.coords t) (word (nc1 V c)) (win1_0.fill (grid1.coords t) d (keysBlk1 V c t)) (mx1 V c) I
      (scr1 (grid1.coords t) (word (nc1 V c)) (pk1 V c) X) = idxAt V c t.val t.isLt := by
  have hs := scr1_hot t (word (nc1 V c)) (pk1 V c) X hX
  have hc := coords1 t
  obtain ⟨n, h⟩ := t
  rcases n with _ | n
  · exact idx1_congr _ _ _ (fun j hj => fill1_agree _ _ _ _ j hj) (fun h0 => absurd hc h0) hs
  · exact idx1_congr _ _ _ (fun j hj => fill1_agree _ _ _ _ j hj) (fun _ => hI (Nat.succ_ne_zero n)) hs

set_option maxRecDepth 20000 in
/-- The body meets the data at every point. -/
theorem body1 (c : Dev nD) : Pipeline.BodyObligationLoose (dat1 V c) (defs₀ (F := F)) Variants.none () Set.univ := fun t => by
  rw [bigSep_W1, bigSep_W1, defs₀_row1]
  have hb := idx_run (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _)
  show iprop(((∃ X : S64x2048.Idx → Elt F .f32, ⌜t.val ≠ 0 → hot (word (nc1 V c)) → X = k1_pay2 (pk1 V c)⌝
        ∗ owns c (Memref.whole cc1_scratch0) fullShare X) ∗ rest1 (F := F) c) ∗ (dat1 V c).owesAt () t.castSucc
        ∗ (∃ d, owns c (st1_0 t) fullShare ((dat1 V c).before 0 t d)) ∗ (∃ d, owns c (st1_1 t) fullShare ((dat1 V c).before 1 t d))
        ∗ (∃ d, owns c (st1_2 t) fullShare ((dat1 V c).before 2 t d)) ∗ (∃ d, owns c (st1_3 t) fullShare ((dat1 V c).before 3 t d))
        ∗ (∃ d, owns c (st1_4 t) fullShare ((dat1 V c).before 4 t d)))
      ⊢ wp frame (wpE (defs₀ (F := F)) Variants.none c none) Set.univ (bodyAt1 t) fun _ =>
        iprop(((∃ X : S64x2048.Idx → Elt F .f32, ⌜t.val + 1 ≠ 0 → hot (word (nc1 V c)) → X = k1_pay2 (pk1 V c)⌝
        ∗ owns c (Memref.whole cc1_scratch0) fullShare X) ∗ rest1 (F := F) c) ∗ (dat1 V c).owesAt () t.castSucc
        ∗ (∃ d, owns c (st1_0 t) fullShare (win1_0.fill (grid1.coords t) d (win1_0.cut (grid1.coords t) (keys1 V c t))))
        ∗ owns c (st1_1 t) fullShare (pk1 V c) ∗ owns c (st1_2 t) fullShare (mx1 V c) ∗ owns c (st1_3 t) fullShare (nc1 V c)
        ∗ owns c (st1_4 t) fullShare (idxAt V c t.val t.isLt))
  iintro ⟨⟨⟨%X, %hX, H6⟩, HR⟩, HO, ⟨%d1, H1⟩, ⟨%d2, H2⟩, ⟨%d3, H3⟩, ⟨%d4, H4⟩, ⟨%d5, H5⟩⟩
  rw [before1_0, before1_1, before1_2, before1_3]
  iapply (hb _ _ _ _ _ _ Set.univ _)
  isplitl [H1]; · iexact H1
  isplitl [H2]; · iexact H2
  isplitl [H3]; · iexact H3
  isplitl [H4]; · iexact H4
  isplitl [H5]; · iexact H5
  isplitl [H6]; · iexact H6
  rw [idxAt_step V c t d1 _ X (fun ht => before1_4 V c t ht d5) hX]
  iintro ⟨H1, H2, H3, H4, H5, H6⟩
  isplitl [H6 HR]
  · isplitl [H6]; · iexists _; isplitr; · ipureintro; exact fun _ hh => scr1_hot t _ _ X hX hh
                    iexact H6
    iexact HR
  isplitl [HO]; · iexact HO
  isplitl [H1]
  · iexists d1; unfold keys1; rw [Window.cut_fill]; iexact H1
  isplitl [H2]; · iexact H2
  isplitl [H3]; · iexact H3
  isplitl [H4]; · iexact H4
  iexact H5

end Cert.KernelIdeal.Bank

end
-- ==== Proof.Dat2.lean ====
/-
  The third kernel's region: what each of its buffers holds after each point, and the body's obligation to it. Of the
  result's tile what is kept is how it was computed from the two tiles read, whatever these are padded with.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Pad
public import Idealize.ShloMosaic.Lib.Pipeline.FrameBody
public import Idealize.ShloMosaic.Lib.Pipeline.DatRel
public import Idealize.ShloMosaic.Lib.WordCmp
public import Idealize.ShloMosaic.Lib.Pipeline.Value
public import Idealize.ShloMosaic.Lib.VecWindow
public import Idealize.ShloMosaic.Lib.Tactic

@[expose] public section

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

variable (V : (c : Dev nD) → (b : Ref sig .tc) → Buf (Elt F) ((c : Thread nD τ).loc b))

/-- The blocks of keys and of values fetched at a point: the tiles' columns that lie in the arrays. -/
abbrev keysBlk2 (c : Dev nD) (t : Fin cfg2.N) : (win2_3.xblock (grid2.coords t)).Idx → Elt F .f32 :=
  (win2_3.blk t).view.read (Elt F) (V c main_arg0)
@[inherit_doc keysBlk2]
abbrev valsBlk2 (c : Dev nD) (t : Fin cfg2.N) : (win2_4.xblock (grid2.coords t)).Idx → Elt F .f32 :=
  (win2_4.blk t).view.read (Elt F) (V c main_arg1)

/-- The first point. -/
abbrev z2 : Fin cfg2.N := ⟨0, by decide⟩

/-- The index, the maxima, the number of them above the threshold, the previous keys and values, as the region finds them. -/
def id2 (c : Dev nD) : S1x2048.Idx → Elt F .i32 := (win2_0.blk z2).view.read (Elt F) (V c main_v1)
@[inherit_doc id2] def mx2 (c : Dev nD) : S1x2048.Idx → Elt F .f32 := (win2_1.blk z2).view.read (Elt F) (V c main_v0_0)
@[inherit_doc id2] def nc2 (c : Dev nD) : S1.Idx → Elt F .i32 := (win2_2.blk z2).view.read (Elt F) (V c main_v0_1)
@[inherit_doc id2] def pk2 (c : Dev nD) : S64x2048.Idx → Elt F .f32 := (win2_5.blk z2).view.read (Elt F) (V c main_arg2)
@[inherit_doc id2] def pv2 (c : Dev nD) : S512x2048.Idx → Elt F .f32 := (win2_6.blk z2).view.read (Elt F) (V c main_arg3)

/-- The tile of the result at a point, of the two tiles read. -/
def tile2 (c : Dev nD) (t : Fin cfg2.N) (K : S64x512.Idx → Elt F .f32) (W : S512x512.Idx → Elt F .f32) : S576x512.Idx → Elt F .f32 :=
  out2 (grid2.coords t) (word (nc2 V c)) (id2 V c) (mx2 V c) K W (k2_pay1 (pk2 V c)) (k2_pay2 (pv2 V c))

/-- The scoped buffers beside the two scratches. -/
theorem rest2_ex (c : Dev nD) : ∃ R : sProp 𝕄, Pipeline.scopedRest (Ix := Unit) (Name := ℕ) (U := UU) (Lvl := ℕ) (Val := Elt F) spec2 c
    = iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ R) :=
  ⟨_, Pipeline.scopedRest_eq_of_list spec2 c [cc2_scratch0, cc2_scratch1, cc0_stg0_0, cc0_stg0_1, cc0_stg1_0, cc0_stg2_0, cc0_scratch0, cc1_stg0_0, cc1_stg0_1, cc1_stg1_0, cc1_stg2_0, cc1_stg4_0, cc1_scratch0, cc0_stg3_0, cc1_stg3_0] (by decide) (by decide)⟩
def rest2 (c : Dev nD) : sProp 𝕄 := Classical.choose (rest2_ex (F := F) c)
theorem rest2_eq (c : Dev nD) : Pipeline.scopedRest (Ix := Unit) (Name := ℕ) (U := UU) (Lvl := ℕ) (Val := Elt F) spec2 c
    = iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ rest2 (F := F) c) :=
  Classical.choose_spec (rest2_ex (F := F) c)

/-- The region's data: the arrays as it finds them, the windows read at their blocks, the two scratches holding the normalised
    previous keys and values from the first point on, if any entry is above the threshold. -/
def dat2 (c : Dev nD) : Dat τ (Elt F) Unit ℕ UU ℕ cfg2 c where
  A w := V c (Pipeline.arrRef spec2 w)
  after w t := match w with
    | ⟨0, _⟩ => id2 V c
    | ⟨1, _⟩ => mx2 V c
    | ⟨2, _⟩ => nc2 V c
    | ⟨3, _⟩ => win2_3.fill (grid2.coords t) (fun _ => Classical.arbitrary _) (keysBlk2 V c t)
    | ⟨4, _⟩ => win2_4.fill (grid2.coords t) (fun _ => Classical.arbitrary _) (valsBlk2 V c t)
    | ⟨5, _⟩ => pk2 V c
    | ⟨6, _⟩ => pv2 V c
    | ⟨7, _⟩ => fun _ => Classical.arbitrary _
  Φ t := iprop((∃ (X : S64x2048.Idx → Elt F .bf16) (Y : S512x2048.Idx → Elt F .bf16),
    ⌜t.val ≠ 0 → hot (word (nc2 V c)) → X = k2_pay1 (pk2 V c) ∧ Y = k2_pay2 (pv2 V c)⌝
    ∗ owns c (Memref.whole cc2_scratch0) fullShare X ∗ owns c (Memref.whole cc2_scratch1) fullShare Y) ∗ rest2 (F := F) c)
  q _ := fullShare
  owed _ := 0

/-- The result's window is the one of which a relation is kept. -/
def marked2 : Fin cfg2.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true

/-- What is kept of it: the tile is computed of the two tiles read, padded with something. -/
def rel2 (c : Dev nD) : (w : Fin cfg2.W) → Fin cfg2.N → ((cfg2.win w).block.Idx → Elt F (cfg2.win w).elt) → Prop
  | ⟨0, _⟩ => fun _ _ => True
  | ⟨1, _⟩ => fun _ _ => True
  | ⟨2, _⟩ => fun _ _ => True
  | ⟨3, _⟩ => fun _ _ => True
  | ⟨4, _⟩ => fun _ _ => True
  | ⟨5, _⟩ => fun _ _ => True
  | ⟨6, _⟩ => fun _ _ => True
  | ⟨7, _⟩ => fun t X => ∃ (dk : S64x512.Idx → Elt F .f32) (dv : S512x512.Idx → Elt F .f32),
      X = tile2 V c t (win2_3.fill (grid2.coords t) dk (keysBlk2 V c t)) (win2_4.fill (grid2.coords t) dv (valsBlk2 V c t))

theorem before2_0 (c : Dev nD) (t : Fin cfg2.N) (d) : (dat2 V c).before 0 t d = id2 V c :=
  (dat2 V c).before_in_eq_fetched 0 rfl (fun _ => rfl) (fun _ _ _ => rfl) (fun _ => rfl) t d
theorem before2_1 (c : Dev nD) (t : Fin cfg2.N) (d) : (dat2 V c).before 1 t d = mx2 V c :=
  (dat2 V c).before_in_eq_fetched 1 rfl (fun _ => rfl) (fun _ _ _ => rfl) (fun _ => rfl) t d
theorem before2_2 (c : Dev nD) (t : Fin cfg2.N) (d) : (dat2 V c).before 2 t d = nc2 V c :=
  (dat2 V c).before_in_eq_fetched 2 rfl (fun _ => rfl) (fun _ _ _ => rfl) (fun _ => rfl) t d
theorem before2_3 (c : Dev nD) (t : Fin cfg2.N) (d) : (dat2 V c).before 3 t d = win2_3.fill (grid2.coords t) d (keysBlk2 V c t) :=
  (dat2 V c).before_fetched 3 t (fetch2_3 t) d
theorem before2_4 (c : Dev nD) (t : Fin cfg2.N) (d) : (dat2 V c).before 4 t d = win2_4.fill (grid2.coords t) d (valsBlk2 V c t) :=
  (dat2 V c).before_fetched 4 t (fetch2_4 t) d
theorem before2_5 (c : Dev nD) (t : Fin cfg2.N) (d) : (dat2 V c).before 5 t d = pk2 V c :=
  (dat2 V c).before_in_eq_fetched 5 rfl (fun _ => rfl) (fun _ _ _ => rfl) (fun _ => rfl) t d
theorem before2_6 (c : Dev nD) (t : Fin cfg2.N) (d) : (dat2 V c).before 6 t d = pv2 V c :=
  (dat2 V c).before_in_eq_fetched 6 rfl (fun _ => rfl) (fun _ _ _ => rfl) (fun _ => rfl) t d

theorem defs₀_row2 (t : Fin cfg2.N) : defs₀ (F := F) .tc cfg2.body (cfg2.bodyArgs t (cfg2.slots t)) = bodyAt2 t := by
  unfold defs₀; rw [Defs.onTc_tc]

/-- The scratches after a point, where they matter. -/
theorem scr2_hot (t : Fin cfg2.N) (n : BitVec 32) (P : S64x2048.Idx → Elt F .f32) (Q : S512x2048.Idx → Elt F .f32)
    (X : S64x2048.Idx → Elt F .bf16) (Y : S512x2048.Idx → Elt F .bf16)
    (hX : t.val ≠ 0 → hot n → X = k2_pay1 P ∧ Y = k2_pay2 Q) (hh : hot n) :
    scr2k (grid2.coords t) n P X = k2_pay1 P ∧ scr2v (grid2.coords t) n Q Y = k2_pay2 Q := by
  have hc := coords2 t
  unfold scr2k scr2v
  by_cases ht : t.val = 0
  · rw [if_pos ((hotFirst_iff n _ (grid2.coords t 0).isLt).mpr ⟨hh, hc.trans ht⟩), if_pos ((hotFirst_iff n _ (grid2.coords t 0).isLt).mpr ⟨hh, hc.trans ht⟩)]
    exact ⟨rfl, rfl⟩
  · have hn : ¬ hotFirst n (BitVec.ofNat 32 (grid2.coords t 0).val) := fun H => ht (hc.symm.trans ((hotFirst_iff n _ (grid2.coords t 0).isLt).mp H).2)
    rw [if_neg hn, if_neg hn]
    exact hX ht hh

/-- The tile does not depend on what the scratches held before. -/
theorem tile2_of_run (c : Dev nD) (t : Fin cfg2.N) (K : S64x512.Idx → Elt F .f32) (W : S512x512.Idx → Elt F .f32)
    (X : S64x2048.Idx → Elt F .bf16) (Y : S512x2048.Idx → Elt F .bf16)
    (hX : t.val ≠ 0 → hot (word (nc2 V c)) → X = k2_pay1 (pk2 V c) ∧ Y = k2_pay2 (pv2 V c)) :
    out2 (grid2.coords t) (word (nc2 V c)) (id2 V c) (mx2 V c) K W (scr2k (grid2.coords t) (word (nc2 V c)) (pk2 V c) X)
      (scr2v (grid2.coords t) (word (nc2 V c)) (pv2 V c) Y) = tile2 V c t K W := by
  have hs := scr2_hot t (word (nc2 V c)) (pk2 V c) (pv2 V c) X Y hX
  unfold tile2 out2
  by_cases hh : hot (word (nc2 V c))
  · rw [if_pos hh, if_pos hh, (hs hh).1, (hs hh).2]
  · rw [if_neg hh, if_neg hh]

set_option maxRecDepth 20000 in
/-- The body meets the data at every point. -/
theorem body2 (c : Dev nD) : Pipeline.BodyObligationRel (dat2 V c) (defs₀ (F := F)) Variants.none () Set.univ marked2 (rel2 V c) := fun t => by
  rw [bigSep_W2, bigSep_W2, defs₀_row2]
  have hb := update_run (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _)
  show iprop(((∃ (X : S64x2048.Idx → Elt F .bf16) (Y : S512x2048.Idx → Elt F .bf16),
        ⌜t.val ≠ 0 → hot (word (nc2 V c)) → X = k2_pay1 (pk2 V c) ∧ Y = k2_pay2 (pv2 V c)⌝
        ∗ owns c (Memref.whole cc2_scratch0) fullShare X ∗ owns c (Memref.whole cc2_scratch1) fullShare Y) ∗ rest2 (F := F) c) ∗ (dat2 V c).owesAt () t.castSucc
        ∗ (∃ d, owns c (st2_0 t) fullShare ((dat2 V c).before 0 t d)) ∗ (∃ d, owns c (st2_1 t) fullShare ((dat2 V c).before 1 t d))
        ∗ (∃ d, owns c (st2_2 t) fullShare ((dat2 V c).before 2 t d)) ∗ (∃ d, owns c (st2_3 t) fullShare ((dat2 V c).before 3 t d))
        ∗ (∃ d, owns c (st2_4 t) fullShare ((dat2 V c).before 4 t d)) ∗ (∃ d, owns c (st2_5 t) fullShare ((dat2 V c).before 5 t d))
        ∗ (∃ d, owns c (st2_6 t) fullShare ((dat2 V c).before 6 t d))
        ∗ (∃ Y, ⌜((dat2 V c).toRRel marked2 (rel2 V c)).Finds 7 t Y⌝ ∗ owns c (st2_7 t) fullShare Y))
      ⊢ wp frame (wpE (defs₀ (F := F)) Variants.none c none) Set.univ (bodyAt2 t) fun _ =>
        iprop(((∃ (X : S64x2048.Idx → Elt F .bf16) (Y : S512x2048.Idx → Elt F .bf16),
        ⌜t.val + 1 ≠ 0 → hot (word (nc2 V c)) → X = k2_pay1 (pk2 V c) ∧ Y = k2_pay2 (pv2 V c)⌝
        ∗ owns c (Memref.whole cc2_scratch0) fullShare X ∗ owns c (Memref.whole cc2_scratch1) fullShare Y) ∗ rest2 (F := F) c) ∗ (dat2 V c).owesAt () t.castSucc
        ∗ owns c (st2_0 t) fullShare (id2 V c) ∗ owns c (st2_1 t) fullShare (mx2 V c) ∗ owns c (st2_2 t) fullShare (nc2 V c)
        ∗ (∃ d, owns c (st2_3 t) fullShare (win2_3.fill (grid2.coords t) d (win2_3.cut (grid2.coords t) (win2_3.fill (grid2.coords t) (fun _ => Classical.arbitrary _) (keysBlk2 V c t)))))
        ∗ (∃ d, owns c (st2_4 t) fullShare (win2_4.fill (grid2.coords t) d (win2_4.cut (grid2.coords t) (win2_4.fill (grid2.coords t) (fun _ => Classical.arbitrary _) (valsBlk2 V c t)))))
        ∗ owns c (st2_5 t) fullShare (pk2 V c) ∗ owns c (st2_6 t) fullShare (pv2 V c)
        ∗ (∃ X, ⌜rel2 V c 7 t X⌝ ∗ owns c (st2_7 t) fullShare X))
  iintro ⟨⟨⟨%X, %Y, %hX, H9, H10⟩, HR⟩, HO, ⟨%d1, H1⟩, ⟨%d2, H2⟩, ⟨%d3, H3⟩, ⟨%d4, H4⟩, ⟨%d5, H5⟩, ⟨%d6, H6⟩, ⟨%d7, H7⟩, ⟨%d8, -, H8⟩⟩
  rw [before2_0, before2_1, before2_2, before2_3, before2_4, before2_5, before2_6]
  iapply (hb _ _ _ _ _ _ _ _ _ Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  rw [tile2_of_run V c t _ _ X Y hX]
  iintro ⟨H1, H2, H3, H4, H5, H6, H7, H8, H9, H10⟩
  isplitl [H9 H10 HR]
  · isplitl [H9 H10]
    · iexists _; iexists _
      isplitr; · ipureintro; exact fun _ hh => scr2_hot t _ _ _ X Y hX hh
      isplitl [H9]; · iexact H9
      iexact H10
    iexact HR
  isplitl [HO]; · iexact HO
  isplitl [H1]; · iexact H1
  isplitl [H2]; · iexact H2
  isplitl [H3]; · iexact H3
  isplitl [H4]
  · iexists d4; rw [Window.cut_fill]; iexact H4
  isplitl [H5]
  · iexists d5; rw [Window.cut_fill]; iexact H5
  isplitl [H6]; · iexact H6
  isplitl [H7]; · iexact H7
  iexists _
  isplitr; swap; (· iexact H8)
  ipureintro
  exact ⟨d4, d5, rfl⟩

end Cert.KernelIdeal.Bank

end
-- ==== Proof.Run.lean ====
/-
  The three regions chained: from any launch memory the program ends, its arguments as they were, every counter at
  zero, its result's array some contents the third region may leave.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Dat0
public import proofs.«01_k».proof.Proof.Dat1
public import proofs.«01_k».proof.Proof.Dat2
public import proofs.«01_k».proof.Proof.Gen.KernelIdeal.Regions
public import Idealize.ShloMosaic.Lib.Pipeline.FrameBody
public import Idealize.ShloMosaic.Lib.Pipeline.Regions
public import Idealize.ShloMosaic.Lib.Pipeline.RegionsLoop
public import Idealize.ShloMosaic.Lib.Pipeline.ArrRel
public import Idealize.ShloMosaic.Lib.WordCmp
public import Idealize.ShloMosaic.Lib.Pipeline.Value
public import Idealize.ShloMosaic.Lib.VecWindow
public import Idealize.ShloMosaic.Lib.Tactic

@[expose] public section

noncomputable section

namespace Cert.KernelIdeal.Bank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ UU ℕ

/-- No core owes another anything. -/
abbrev L : GSem nD τ sig → Finset Unit := fun _ => ∅
@[inherit_doc L] abbrev lv : GSem nD τ sig → Unit → ℕ := fun _ _ => 0

abbrev EP : Emb (URounds (GSem nD τ sig) Unit) 𝕄 := embL

variable (m : (ℓ : Loc nD τ sig) → Buf (Elt F) ℓ)

/-- The unscoped buffers at launch, after the first region and after the second. -/
def B0 (c : Dev nD) (b : Ref sig .tc) : Buf (Elt F) ((c : Thread nD τ).loc b) := m ((c : Thread nD τ).loc b)
@[inherit_doc B0]
def B1 (c : Dev nD) : (b : Ref sig .tc) → Buf (Elt F) ((c : Thread nD τ).loc b) :=
  Function.update (Function.update (B0 m c) main_v0_0 ((dat0 (B0 m) c).arrAt 2 cfg0.N)) main_v0_1 ((dat0 (B0 m) c).arrAt 3 cfg0.N)
@[inherit_doc B0]
def B2 (c : Dev nD) : (b : Ref sig .tc) → Buf (Elt F) ((c : Thread nD τ).loc b) :=
  Function.update (B1 m c) main_v1 ((dat1 (B1 m) c).arrAt 4 cfg1.N)

theorem B1_of (c : Dev nD) (r : Ref sig .tc) (h : r ∉ ([main_v0_0, main_v0_1] : List (Ref sig .tc))) : B1 m c r = B0 m c r := by
  unfold B1
  rw [Function.update_of_ne (by rintro rfl; simp at h), Function.update_of_ne (by rintro rfl; simp at h)]
theorem B1_main_v0_0 (c : Dev nD) : B1 m c main_v0_0 = (dat0 (B0 m) c).arrAt 2 cfg0.N := by
  unfold B1; rw [Function.update_of_ne (by decide), Function.update_self]
theorem B1_main_v0_1 (c : Dev nD) : B1 m c main_v0_1 = (dat0 (B0 m) c).arrAt 3 cfg0.N := by
  unfold B1; rw [Function.update_self]
theorem B2_of (c : Dev nD) (r : Ref sig .tc) (h : r ∉ ([main_v1] : List (Ref sig .tc))) : B2 m c r = B1 m c r := by
  unfold B2
  rw [Function.update_of_ne (by rintro rfl; simp at h)]
theorem B2_main_v1 (c : Dev nD) : B2 m c main_v1 = (dat1 (B1 m) c).arrAt 4 cfg1.N := by
  unfold B2; rw [Function.update_self]

/-- The three regions' data, each from the buffers it finds. -/
def pdats : (p : Fin 3) → (c : Dev nD) → Dat τ (Elt F) Unit ℕ UU ℕ (Pipeline.pin (pcfgs (F := F)) adm p) c
  | ⟨0, _⟩ => fun c => dat0 (B0 m) c
  | ⟨1, _⟩ => fun c => dat1 (B1 m) c
  | ⟨2, _⟩ => fun c => dat2 (B2 m) c

/-- The same, the third's result held to its relation. -/
def rdats : (p : Fin 3) → (c : Dev nD) → Pipeline.RDat τ (Elt F) Unit ℕ UU ℕ (Pipeline.pin (pcfgs (F := F)) adm p) c
  | ⟨0, _⟩ => fun c => (dat0 (B0 m) c).toR
  | ⟨1, _⟩ => fun c => (dat1 (B1 m) c).toR
  | ⟨2, _⟩ => fun c => (dat2 (B2 m) c).toRRel marked2 (rel2 (B2 m) c)

set_option backward.isDefEq.respectTransparency.types false in
/-- Region 0 over the unscoped buffers. -/
def reg0 : Pipeline.RDat.RegionSeg (pcfgs (F := F)) adm (rdats m) () defs₀ Variants.none L lv 0 where
  win := launch0.win.to₀
  block_pos := launch0.block_pos
  stage_whole := launch0.stage_whole
  K := PEmpty
  osem k := k.elim
  ho := Pipeline.OwnSemFacts.none _
  hbody c := (body0 (B0 m) c).toR
  hwaits := Pipeline.RDat.hwaits_of_owed_zero _ _ _ _ L lv 0 fun _ _ => rfl
  pre c := iprop(unscopedBufs c (B0 m c) ∗ ∃ W, owes (c : Thread nD τ) (0 : CellTallies nD τ sig Unit) W)
  post c := iprop(unscopedBufs c (B1 m c) ∗ ∃ W, owes (c : Thread nD τ) (0 : CellTallies nD τ sig Unit) W)
  X _ := BI.emp
  Y _ := BI.emp
  Z c := Pipeline.unscopedRest (Ix := Unit) (Name := ℕ) (U := UU) (Lvl := ℕ) spec0 c (B0 m c)
  hentry c := by
    rw [Pipeline.ownSems0_none]
    have hsplit := Pipeline.RDat.arrays_of_unscopedBufs (p := 0) (pcfgs (F := F)) adm (rdats m) launch0.win launch0.arr_whole c
      ((pdats m 0 c).share_full fun _ => rfl) (B0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitr; · iempintro
    iexact Hrest
  hin c := by
    rw [show Pipeline.scopedRest (Pipeline.pin (pcfgs (F := F)) adm 0).spec c = _ from rest0_eq (F := F) c]
    change _ ⊢ (dat0 (B0 m) c).Φ 0
    dsimp only [dat0]
    iintro ⟨-, -, ⟨%f, Hf⟩, Hr⟩
    isplitl [Hf]
    · iexists f; isplitr; · ipureintro; exact fun h => absurd rfl h
      rw [owns_whole]; iexact Hf
    iexact Hr
  hout c := by
    rw [Pipeline.ownSems0_none, show Pipeline.scopedRest (Pipeline.pin (pcfgs (F := F)) adm 0).spec c = _ from rest0_eq (F := F) c]
    change (dat0 (B0 m) c).Φ (Fin.last cfg0.N) ⊢ _
    dsimp only [dat0]
    simp only [owns_whole]
    iintro ⟨⟨%X, -, Hf⟩, Hr⟩
    isplitr; · iempintro
    isplitr; · iempintro
    isplitl [Hf]
    · iexists X; iexact Hf
    iexact Hr
  hexit c := by
    have hjoin : iprop((dat0 (B0 m) c).arrays ((dat0 (B0 m) c).arrAt · cfg0.N) ∗ Pipeline.unscopedRest (Ix := Unit) (Name := ℕ) (U := UU) (Lvl := ℕ) spec0 c (B0 m c)) ⊢ unscopedBufs c (B1 m c) := Pipeline.unscopedBufs_of_arrays (p := 0) (pcfgs (F := F)) adm (Ix := Unit) (Name := ℕ) (U := UU) (Lvl := ℕ) launch0.win launch0.arr_whole c
      (pdats m) ((pdats m 0 c).share_full fun _ => rfl) (B0 m c) (B1 m c) ((pdats m 0 c).arrAt · cfg0.N)
      (fun w => by
        fin_cases w
        · exact ((dat0 (B0 m) c).arrAt_in 0 rfl _).trans (B1_of m c main_arg0 (by decide)).symm
        · exact ((dat0 (B0 m) c).arrAt_in 1 rfl _).trans (B1_of m c main_arg2 (by decide)).symm
        · exact (B1_main_v0_0 m c).symm
        · exact (B1_main_v0_1 m c).symm
)
      (fun b hb => B1_of m c b fun h => hb (by
        simp only [List.mem_cons, List.not_mem_nil, _root_.or_false] at h
        rcases h with rfl | rfl
        · exact Finset.mem_image.mpr ⟨2, Finset.mem_univ _, rfl⟩
        · exact Finset.mem_image.mpr ⟨3, Finset.mem_univ _, rfl⟩))
    have hpost := (dat0 (B0 m) c).toR_arraysAt_post cfg0.N
    refine (sep_mono hpost .rfl).trans ?_
    iintro ⟨Ha, HO, -, Hrest⟩
    imodintro
    isplitl [Ha Hrest]
    · iapply hjoin; isplitl [Ha]; · iexact Ha
      iexact Hrest
    icases HO with ⟨%W, -, HO⟩; iexists W; iexact HO

set_option backward.isDefEq.respectTransparency.types false in
/-- Region 1 over the unscoped buffers. -/
def reg1 : Pipeline.RDat.RegionSeg (pcfgs (F := F)) adm (rdats m) () defs₀ Variants.none L lv 1 where
  win := launch1.win.to₀
  block_pos := launch1.block_pos
  stage_whole := launch1.stage_whole
  K := PEmpty
  osem k := k.elim
  ho := Pipeline.OwnSemFacts.none _
  hbody c := (body1 (B1 m) c).toR
  hwaits := Pipeline.RDat.hwaits_of_owed_zero _ _ _ _ L lv 1 fun _ _ => rfl
  pre c := iprop(unscopedBufs c (B1 m c) ∗ ∃ W, owes (c : Thread nD τ) (0 : CellTallies nD τ sig Unit) W)
  post c := iprop(unscopedBufs c (B2 m c) ∗ ∃ W, owes (c : Thread nD τ) (0 : CellTallies nD τ sig Unit) W)
  X _ := BI.emp
  Y _ := BI.emp
  Z c := Pipeline.unscopedRest (Ix := Unit) (Name := ℕ) (U := UU) (Lvl := ℕ) spec1 c (B1 m c)
  hentry c := by
    rw [Pipeline.ownSems0_none]
    have hsplit := Pipeline.RDat.arrays_of_unscopedBufs (p := 1) (pcfgs (F := F)) adm (rdats m) launch1.win launch1.arr_whole c
      ((pdats m 1 c).share_full fun _ => rfl) (B1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitr; · iempintro
    iexact Hrest
  hin c := by
    rw [show Pipeline.scopedRest (Pipeline.pin (pcfgs (F := F)) adm 1).spec c = _ from rest1_eq (F := F) c]
    change _ ⊢ (dat1 (B1 m) c).Φ 0
    dsimp only [dat1]
    iintro ⟨-, -, ⟨%f, Hf⟩, Hr⟩
    isplitl [Hf]
    · iexists f; isplitr; · ipureintro; exact fun h => absurd rfl h
      rw [owns_whole]; iexact Hf
    iexact Hr
  hout c := by
    rw [Pipeline.ownSems0_none, show Pipeline.scopedRest (Pipeline.pin (pcfgs (F := F)) adm 1).spec c = _ from rest1_eq (F := F) c]
    change (dat1 (B1 m) c).Φ (Fin.last cfg1.N) ⊢ _
    dsimp only [dat1]
    simp only [owns_whole]
    iintro ⟨⟨%X, -, Hf⟩, Hr⟩
    isplitr; · iempintro
    isplitr; · iempintro
    isplitl [Hf]
    · iexists X; iexact Hf
    iexact Hr
  hexit c := by
    have hjoin : iprop((dat1 (B1 m) c).arrays ((dat1 (B1 m) c).arrAt · cfg1.N) ∗ Pipeline.unscopedRest (Ix := Unit) (Name := ℕ) (U := UU) (Lvl := ℕ) spec1 c (B1 m c)) ⊢ unscopedBufs c (B2 m c) := Pipeline.unscopedBufs_of_arrays (p := 1) (pcfgs (F := F)) adm (Ix := Unit) (Name := ℕ) (U := UU) (Lvl := ℕ) launch1.win launch1.arr_whole c
      (pdats m) ((pdats m 1 c).share_full fun _ => rfl) (B1 m c) (B2 m c) ((pdats m 1 c).arrAt · cfg1.N)
      (fun w => by
        fin_cases w
        · exact ((dat1 (B1 m) c).arrAt_in 0 rfl _).trans (B2_of m c main_arg0 (by decide)).symm
        · exact ((dat1 (B1 m) c).arrAt_in 1 rfl _).trans (B2_of m c main_arg2 (by decide)).symm
        · exact ((dat1 (B1 m) c).arrAt_in 2 rfl _).trans (B2_of m c main_v0_0 (by decide)).symm
        · exact ((dat1 (B1 m) c).arrAt_in 3 rfl _).trans (B2_of m c main_v0_1 (by decide)).symm
        · exact (B2_main_v1 m c).symm
)
      (fun b hb => B2_of m c b fun h => hb (by
        simp only [List.mem_cons, List.not_mem_nil, _root_.or_false] at h
        subst h
        exact Finset.mem_image.mpr ⟨4, Finset.mem_univ _, rfl⟩))
    have hpost := (dat1 (B1 m) c).toR_arraysAt_post cfg1.N
    refine (sep_mono hpost .rfl).trans ?_
    iintro ⟨Ha, HO, -, Hrest⟩
    imodintro
    isplitl [Ha Hrest]
    · iapply hjoin; isplitl [Ha]; · iexact Ha
      iexact Hrest
    icases HO with ⟨%W, -, HO⟩; iexists W; iexact HO

set_option backward.isDefEq.respectTransparency.types false in
/-- Region 2 over the unscoped buffers. -/
def reg2 : Pipeline.RDat.RegionSeg (pcfgs (F := F)) adm (rdats m) () defs₀ Variants.none L lv 2 where
  win := launch2.win.to₀
  block_pos := launch2.block_pos
  stage_whole := launch2.stage_whole
  K := PEmpty
  osem k := k.elim
  ho := Pipeline.OwnSemFacts.none _
  hbody c := (body2 (B2 m) c).toRRel
  hwaits := Pipeline.RDat.hwaits_of_owed_zero _ _ _ _ L lv 2 fun _ _ => rfl
  pre c := iprop(unscopedBufs c (B2 m c) ∗ ∃ W, owes (c : Thread nD τ) (0 : CellTallies nD τ sig Unit) W)
  post c := iprop((rdats m 2 c).arraysAt cfg2.N ∗ ∃ W, owes (c : Thread nD τ) (0 : CellTallies nD τ sig Unit) W)
  X _ := BI.emp
  Y _ := BI.emp
  Z c := Pipeline.unscopedRest (Ix := Unit) (Name := ℕ) (U := UU) (Lvl := ℕ) spec2 c (B2 m c)
  hentry c := by
    rw [Pipeline.ownSems0_none]
    have hsplit := Pipeline.RDat.arrays_of_unscopedBufs (p := 2) (pcfgs (F := F)) adm (rdats m) launch2.win launch2.arr_whole c
      ((pdats m 2 c).share_full fun _ => rfl) (B2 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitr; · iempintro
    iexact Hrest
  hin c := by
    rw [show Pipeline.scopedRest (Pipeline.pin (pcfgs (F := F)) adm 2).spec c = _ from rest2_eq (F := F) c]
    change _ ⊢ (dat2 (B2 m) c).Φ 0
    dsimp only [dat2]
    iintro ⟨-, -, ⟨%f, Hf⟩, ⟨%g, Hg⟩, Hr⟩
    isplitl [Hf Hg]
    · iexists f; iexists g; isplitr; · ipureintro; exact fun h => absurd rfl h
      rw [owns_whole, owns_whole]
      isplitl [Hf] <;> iassumption
    iexact Hr
  hout c := by
    rw [Pipeline.ownSems0_none, show Pipeline.scopedRest (Pipeline.pin (pcfgs (F := F)) adm 2).spec c = _ from rest2_eq (F := F) c]
    change (dat2 (B2 m) c).Φ (Fin.last cfg2.N) ⊢ _
    dsimp only [dat2]
    simp only [owns_whole]
    iintro ⟨⟨%X, %Y, -, Hf, Hg⟩, Hr⟩
    isplitr; · iempintro
    isplitr; · iempintro
    isplitl [Hf]
    · iexists X; iexact Hf
    isplitl [Hg]
    · iexists Y; iexact Hg
    iexact Hr
  hexit c := by
    iintro ⟨Ha, HO, -, -⟩
    imodintro
    isplitl [Ha]; · iexact Ha
    icases HO with ⟨%W, -, HO⟩; iexists W; iexact HO

/-- The launch element: the pipelines' at the staging cells; no counter yet. -/
def u₀ : UU := (initOf (Pipeline.cells cfgs cellOf_inj) (Pipeline.launchToks cfgs cellOf_inj), 1)

/-- @main's three calls. -/
abbrev rsegs : List (Pipeline.RDat.Seg (pcfgs (F := F)) adm (rdats m) () defs₀ Variants.none L lv) :=
  [.region (reg0 m), .region (reg1 m), .region (reg2 m)]

/-- What the run ends in: the arguments as they were, the result's array some contents the third region may leave. -/
def Ends (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ ((dat2 (B2 m) c).toRRel marked2 (rel2 (B2 m) c)).ArrAt 7 cfg2.N (s.mem ((c.tc : Thread nD τ).loc main_v2))

theorem B2_arg (c : Dev nD) (r : Ref sig .tc) (h : r ∉ ([main_v0_0, main_v0_1] : List (Ref sig .tc))) (h' : r ∉ ([main_v1] : List (Ref sig .tc))) :
    B2 m c r = m ((c.tc : Thread nD τ).loc r) := (B2_of m c r h').trans (B1_of m c r h)

/-- The last region's arrays, read. -/
theorem ends_of (c : Dev nD) (s : MemSt nD τ sig (Elt F))
    (h : ∀ w : Fin cfg2.W, ((dat2 (B2 m) c).toRRel marked2 (rel2 (B2 m) c)).ArrAt w cfg2.N (s.mem ((cfg2.spec w).arr.view.loc (c.tc : Thread nD τ)))) :
    Ends m c s :=
  ⟨((congrFun (((dat2 (B2 m) c).toRRel marked2 (rel2 (B2 m) c)).ArrAt_in 3 rfl _) _).mp (h 3)).trans (B2_arg m c main_arg0 (by decide) (by decide)),
    ((congrFun (((dat2 (B2 m) c).toRRel marked2 (rel2 (B2 m) c)).ArrAt_in 4 rfl _) _).mp (h 4)).trans (B2_arg m c main_arg1 (by decide) (by decide)),
    ((congrFun (((dat2 (B2 m) c).toRRel marked2 (rel2 (B2 m) c)).ArrAt_in 5 rfl _) _).mp (h 5)).trans (B2_arg m c main_arg2 (by decide) (by decide)),
    ((congrFun (((dat2 (B2 m) c).toRRel marked2 (rel2 (B2 m) c)).ArrAt_in 6 rfl _) _).mp (h 6)).trans (B2_arg m c main_arg3 (by decide) (by decide)),
    h 7⟩

set_option backward.isDefEq.respectTransparency.types false in
/-- Every execution from memory `m` with zero counters ends so, every counter at zero. -/
theorem run_main (ρ : Dev nD → PrngReg) :
    θ_run defs (onTc (τ := τ) (main (F := F))) ⟨m, fun _ => 0, ρ⟩ (fun r => (∀ c : Dev nD, Ends m c r.2) ∧ r.2.sem = fun _ => 0) := by
  refine Pipeline.RDat.θ_run_regions_kit_sems (pcfgs (F := F)) adm (rdats m) () cellOf_inj EP defs₀ Variants.none L lv m ρ main
    (rsegs m)
    (fun c Q => by
      rewrite [main_chain c, Pipeline.RDat.Seg.run_eq_chain,
        show (rsegs m).map Pipeline.RDat.Seg.prog = [
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (by simp only [Pipeline.RDat.Seg.pipes_region, Pipeline.RDat.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(unscopedBufs c (B0 m c) ∗ ∃ W, owes (c : Thread nD τ) (0 : CellTallies nD τ sig Unit) W))
    (Tₙ := fun c => (rdats m 2 c).arraysAt cfg2.N)
    (hch := ⟨fun _ => .rfl, fun _ => .rfl, fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => Ends m c s)
    (hfin := fun c s' => by
      iintro ⟨Ha, HSI⟩
      ihave Hr := (Pipeline.RDat.arrays_read (p := 2) (pcfgs (F := F)) adm (rdats m) launch2.arr_whole c cfg2.N s') $$ [Ha HSI]
      · isplitl [Ha] <;> iassumption
      icases Hr with ⟨%ha, HSI⟩
      imodintro
      isplitr; · ipureintro; exact ends_of m c _ ha
      iexact HSI)
    (hQ := fun _ h hz => ⟨h, funext fun g => hz g (.inr (regions_no_unscoped g.2))⟩)

end Cert.KernelIdeal.Bank

end
-- ==== Proof.RefRun.lean ====
/- The run of the reference: its operations in order, and what the buffers hold at the end.

   Each buffer is written once and read only after it is written, so the contents at the end (`fin`) satisfy
   the equation of every operation. The operations are kept in stretches; `stage` gives a stretch's results at the
   end from what its inputs hold at the end, and the lemmas below it say so of each stretch. -/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Bank

open Cert.ReferenceIdeal Cert.ReferenceIdeal.Gen
open Idealize.ShloMosaic Idealize.ShloMosaic.TcCoe Idealize.ShloMosaic.StableHlo Idealize.SL.Sem

/-- An array of a shape and an element type. -/
abbrev Arr (F : FTy → Type) (s : Shape) (e : EltTy) : Type := (⟨s, e⟩ : BufTy).Contents (Elt F)

variable {F : FTy → Type} [FloatOps F]

/-! ## The operations -/

/-- The columns of the bank's keys, normalised. -/
abbrev sNk : List (HloOp τ sig (Elt F)) :=
  [ binary main_arg0 main_arg0 main_v0 (mulf : Arr F S64x20000 .f32 → Arr F S64x20000 .f32 → Arr F S64x20000 .f32),
    nullary main_cst (constant S_ .f32 0x00000000#32),
    binary main_v0 main_cst main_v1 ((fun x v => Host.reduceAdd x v reducesTo_S64x20000_S20000_d0 h_S_) : Arr F S64x20000 .f32 → Arr F S_ .f32 → Arr F S20000 .f32),
    unary main_v1 main_v2 (broadcastInDim S1x20000 ![1] bcast_S20000_S1x20000_1 : Arr F S20000 .f32 → Arr F S1x20000 .f32),
    unary main_v2 main_v3 (Host.sqrt : Arr F S1x20000 .f32 → Arr F S1x20000 .f32),
    nullary main_cst_0 (constant S_ .f32 0x2B8CBCCC#32),
    unary main_cst_0 main_v4 (broadcastInDim S1x20000 ![] bcast_S_S1x20000 : Arr F S_ .f32 → Arr F S1x20000 .f32),
    binary main_v3 main_v4 main_v5 (maximumf : Arr F S1x20000 .f32 → Arr F S1x20000 .f32 → Arr F S1x20000 .f32),
    unary main_v5 main_v6 (broadcastInDim S64x20000 ![0, 1] bcast_S1x20000_S64x20000_0_1 : Arr F S1x20000 .f32 → Arr F S64x20000 .f32),
    binary main_arg0 main_v6 main_v7 (Host.divf : Arr F S64x20000 .f32 → Arr F S64x20000 .f32 → Arr F S64x20000 .f32) ]

/-- The columns of the frame's keys, normalised. -/
abbrev sNpk : List (HloOp τ sig (Elt F)) :=
  [ binary main_arg2 main_arg2 main_v8 (mulf : Arr F S64x2048 .f32 → Arr F S64x2048 .f32 → Arr F S64x2048 .f32),
    nullary main_cst_1 (constant S_ .f32 0x00000000#32),
    binary main_v8 main_cst_1 main_v9 ((fun x v => Host.reduceAdd x v reducesTo_S64x2048_S2048_d0 h_S_) : Arr F S64x2048 .f32 → Arr F S_ .f32 → Arr F S2048 .f32),
    unary main_v9 main_v10 (broadcastInDim S1x2048 ![1] bcast_S2048_S1x2048_1 : Arr F S2048 .f32 → Arr F S1x2048 .f32),
    unary main_v10 main_v11 (Host.sqrt : Arr F S1x2048 .f32 → Arr F S1x2048 .f32),
    nullary main_cst_2 (constant S_ .f32 0x2B8CBCCC#32),
    unary main_cst_2 main_v12 (broadcastInDim S1x2048 ![] bcast_S_S1x2048 : Arr F S_ .f32 → Arr F S1x2048 .f32),
    binary main_v11 main_v12 main_v13 (maximumf : Arr F S1x2048 .f32 → Arr F S1x2048 .f32 → Arr F S1x2048 .f32),
    unary main_v13 main_v14 (broadcastInDim S64x2048 ![0, 1] bcast_S1x2048_S64x2048_0_1 : Arr F S1x2048 .f32 → Arr F S64x2048 .f32),
    binary main_arg2 main_v14 main_v15 (Host.divf : Arr F S64x2048 .f32 → Arr F S64x2048 .f32 → Arr F S64x2048 .f32) ]

/-- The lengths of the bank's key columns. -/
abbrev sMagK : List (HloOp τ sig (Elt F)) :=
  [ TRef.binary (TRef.of (T := ⟨S64x20000, .f32⟩) main_arg0) (TRef.of (T := ⟨S64x20000, .f32⟩) main_arg0) (TRef.of (T := ⟨S64x20000, .f32⟩) main_call0_v0) mulf,
    TRef.nullary (TRef.of (T := ⟨S_, .f32⟩) main_call0_cst) (constant S_ .f32 0x00000000#32),
    TRef.binary (TRef.of (T := ⟨S64x20000, .f32⟩) main_call0_v0) (TRef.of (T := ⟨S_, .f32⟩) main_call0_cst) (TRef.of (T := ⟨S20000, .f32⟩) main_call0_v1) (fun x v => Host.reduceAdd x v reducesTo_S64x20000_S20000_d0 h_S_),
    TRef.unary (TRef.of (T := ⟨S20000, .f32⟩) main_call0_v1) (TRef.of (T := ⟨S20000, .f32⟩) main_v16) Host.sqrt ]

/-- The correlations. -/
abbrev sCorr : List (HloOp τ sig (Elt F)) :=
  [ unary main_v7 main_v17 ((transpose S20000x64 [1, 0] · transposes_S64x20000_S20000x64_1_0) : Arr F S64x20000 .f32 → Arr F S20000x64 .f32),
    binary main_v17 main_v15 main_v18 ((fun l r => Host.dotGeneral dot_S20000x64_S64x2048_S20000x2048_1_0_0_1_n_n none l r) : Arr F S20000x64 .f32 → Arr F S64x2048 .f32 → Arr F S20000x2048 .f32) ]

/-- Each frame column's best match. -/
abbrev sArg : List (HloOp τ sig (Elt F)) :=
  [ TRef.nullary (TRef.of (T := ⟨S20000x2048, .i32⟩) main_call1_v0) (iotaInDim S20000x2048 32 0),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S20000x2048, .f32⟩) main_v18) (TRef.of (T := ⟨S20000x2048, .i32⟩) main_call1_v0) (TRef.of (T := ⟨S_, .f32⟩) main_call1_cst) (TRef.of (T := ⟨S_, .i32⟩) main_call1_c) (TRef.of (T := ⟨S2048, .f32⟩) main_call1_v1_0) (fun x y u v => (fun j => (Host.argReduce reducer_argmax_f32_i32 x y u v reducesTo_S20000x2048_S2048_d0 h_S_ j).1)),
    TRef.quaternary (TRef.of (T := ⟨S20000x2048, .f32⟩) main_v18) (TRef.of (T := ⟨S20000x2048, .i32⟩) main_call1_v0) (TRef.of (T := ⟨S_, .f32⟩) main_call1_cst) (TRef.of (T := ⟨S_, .i32⟩) main_call1_c) (TRef.of (T := ⟨S2048, .i32⟩) main_v19) (fun x y u v => (fun j => (Host.argReduce reducer_argmax_f32_i32 x y u v reducesTo_S20000x2048_S2048_d0 h_S_ j).2)) ]

/-- The correlation at the best match. -/
abbrev sTake : List (HloOp τ sig (Elt F)) :=
  [ unary main_v19 main_v20 (broadcastInDim S1x2048 ![1] bcast_S2048_S1x2048_1 : Arr F S2048 .i32 → Arr F S1x2048 .i32),
    TRef.nullary (TRef.of (T := ⟨S_, .i32⟩) main_call2_c) (constantI S_ 32 0#32),
    TRef.unary (TRef.of (T := ⟨S_, .i32⟩) main_call2_c) (TRef.of (T := ⟨S1x2048, .i32⟩) main_call2_v0) (broadcastInDim S1x2048 ![] bcast_S_S1x2048),
    TRef.binary (TRef.of (T := ⟨S1x2048, .i32⟩) main_v20) (TRef.of (T := ⟨S1x2048, .i32⟩) main_call2_v0) (TRef.of (T := ⟨S1x2048, .i1⟩) main_call2_v1) (cmpi .slt),
    TRef.nullary (TRef.of (T := ⟨S_, .i32⟩) main_call2_c_0) (constantI S_ 32 20000#32),
    TRef.unary (TRef.of (T := ⟨S_, .i32⟩) main_call2_c_0) (TRef.of (T := ⟨S1x2048, .i32⟩) main_call2_v2) (broadcastInDim S1x2048 ![] bcast_S_S1x2048),
    TRef.binary (TRef.of (T := ⟨S1x2048, .i32⟩) main_v20) (TRef.of (T := ⟨S1x2048, .i32⟩) main_call2_v2) (TRef.of (T := ⟨S1x2048, .i32⟩) main_call2_v3) addi,
    TRef.ternary (TRef.of (T := ⟨S1x2048, .i1⟩) main_call2_v1) (TRef.of (T := ⟨S1x2048, .i32⟩) main_call2_v3) (TRef.of (T := ⟨S1x2048, .i32⟩) main_v20) (TRef.of (T := ⟨S1x2048, .i32⟩) main_call2_v4) select,
    TRef.reshape (TRef.of (T := ⟨S1x2048, .i32⟩) main_call2_v4) (TRef.of (T := ⟨S1x2048x1, .i32⟩) main_call2_v5) (rfl : (.i32 : EltTy) = .i32) shapeCasts_S1x2048_S1x2048x1,
    TRef.nullary (TRef.of (T := ⟨S1, .i32⟩) main_call2_c_1) (constantI S1 32 19999#32),
    TRef.nullary (TRef.of (T := ⟨S_, .i32⟩) main_call2_c_2) (constantI S_ 32 0#32),
    TRef.unary (TRef.of (T := ⟨S_, .i32⟩) main_call2_c_2) (TRef.of (T := ⟨S1x2048x1, .i32⟩) main_call2_v6) (broadcastInDim S1x2048x1 ![] bcast_S_S1x2048x1),
    TRef.binary (TRef.of (T := ⟨S1x2048x1, .i32⟩) main_call2_v5) (TRef.of (T := ⟨S1x2048x1, .i32⟩) main_call2_v6) (TRef.of (T := ⟨S1x2048x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S1x2048x1, .i32⟩) main_call2_v9) (broadcastInDim S1x2048x1 ![0, 1, 2] bcast_S1x1x1_S1x2048x1_0_1_2),
    TRef.binary (TRef.of (T := ⟨S1x2048x1, .i32⟩) main_call2_v5) (TRef.of (T := ⟨S1x2048x1, .i32⟩) main_call2_v9) (TRef.of (T := ⟨S1x2048x1, .i1⟩) main_call2_v10) (cmpi .sle),
    TRef.binary (TRef.of (T := ⟨S1x2048x1, .i1⟩) main_call2_v7) (TRef.of (T := ⟨S1x2048x1, .i1⟩) main_call2_v10) (TRef.of (T := ⟨S1x2048x1, .i1⟩) main_call2_v11) andi,
    TRef.nullary (TRef.of (T := ⟨S_, .i1⟩) main_call2_c_3) (constantI S_ 1 1#1),
    TRef.binary (TRef.of (T := ⟨S1x2048x1, .i1⟩) main_call2_v11) (TRef.of (T := ⟨S_, .i1⟩) main_call2_c_3) (TRef.of (T := ⟨S1x2048, .i1⟩) main_call2_v12) (fun x v => Host.reduce IntOp.andi x v reducesTo_S1x2048x1_S1x2048_d2 h_S_),
    TRef.binary (TRef.of (T := ⟨S20000x2048, .f32⟩) main_v18) (TRef.of (T := ⟨S1x2048x1, .i32⟩) main_call2_v5) (TRef.of (T := ⟨S1x2048, .f32⟩) main_call2_v13) (fun x i => Host.gather gather_S20000x2048_S1x2048x1_S1x2048_n_0_1_1_0_2_11 x i),
    TRef.nullary (TRef.of (T := ⟨S_, .f32⟩) main_call2_cst) (constant S_ .f32 0x7FC00000#32),
    TRef.unary (TRef.of (T := ⟨S_, .f32⟩) main_call2_cst) (TRef.of (T := ⟨S1x2048, .f32⟩) main_call2_v14) (broadcastInDim S1x2048 ![] bcast_S_S1x2048),
    TRef.ternary (TRef.of (T := ⟨S1x2048, .i1⟩) main_call2_v12) (TRef.of (T := ⟨S1x2048, .f32⟩) main_call2_v13) (TRef.of (T := ⟨S1x2048, .f32⟩) main_call2_v14) (TRef.of (T := ⟨S1x2048, .f32⟩) main_v21) select,
    reshape main_v21 main_v22 (rfl : (.f32 : EltTy) = .f32) shapeCasts_S1x2048_S2048 ]

/-- Whether the best match is close. -/
abbrev sClose : List (HloOp τ sig (Elt F)) :=
  [ nullary main_cst_3 (constant S_ .f32 0x3F733333#32),
    unary main_cst_3 main_v23 (broadcastInDim S2048 ![] bcast_S_S2048 : Arr F S_ .f32 → Arr F S2048 .f32),
    binary main_v22 main_v23 main_v24 (cmpf .ogt : Arr F S2048 .f32 → Arr F S2048 .f32 → Arr F S2048 .i1),
    unary main_v24 main_v25 (uitofp .f32 : Arr F S2048 .i1 → Arr F S2048 .f32) ]

/-- How many close matches each bank column has. -/
abbrev sCnt : List (HloOp τ sig (Elt F)) :=
  [ nullary main_cst_4 (constant S_ .f32 0x00000000#32),
    unary main_cst_4 main_v26 (broadcastInDim S20000 ![] bcast_S_S20000 : Arr F S_ .f32 → Arr F S20000 .f32),
    nullary main_c (constantI S_ 32 0#32),
    unary main_c main_v27 (broadcastInDim S2048 ![] bcast_S_S2048 : Arr F S_ .i32 → Arr F S2048 .i32),
    binary main_v19 main_v27 main_v28 (cmpi .slt : Arr F S2048 .i32 → Arr F S2048 .i32 → Arr F S2048 .i1),
    nullary main_c_5 (constantI S_ 32 20000#32),
    unary main_c_5 main_v29 (broadcastInDim S2048 ![] bcast_S_S2048 : Arr F S_ .i32 → Arr F S2048 .i32),
    binary main_v19 main_v29 main_v30 (addi : Arr F S2048 .i32 → Arr F S2048 .i32 → Arr F S2048 .i32),
    ternary main_v28 main_v30 main_v19 main_v31 (select : Arr F S2048 .i1 → Arr F S2048 .i32 → Arr F S2048 .i32 → Arr F S2048 .i32),
    unary main_v31 main_v32 (broadcastInDim S2048x1 ![0] bcast_S2048_S2048x1_0 : Arr F S2048 .i32 → Arr F S2048x1 .i32),
    ternary main_v26 main_v32 main_v25 main_v33 ((fun x i u => Host.scatterAdd scatter_S20000_S2048x1_S2048_n_0_0_1 x i u) : Arr F S20000 .f32 → Arr F S2048x1 .i32 → Arr F S2048 .f32 → Arr F S20000 .f32),
    nullary main_cst_6 (constant S_ .f32 0x3F800000#32),
    unary main_cst_6 main_v34 (broadcastInDim S20000 ![] bcast_S_S20000 : Arr F S_ .f32 → Arr F S20000 .f32),
    binary main_v33 main_v34 main_v35 (maximumf : Arr F S20000 .f32 → Arr F S20000 .f32 → Arr F S20000 .f32),
    nullary main_cst_7 (constant S_ .f32 0x00000000#32),
    unary main_cst_7 main_v36 (broadcastInDim S20000 ![] bcast_S_S20000 : Arr F S_ .f32 → Arr F S20000 .f32),
    binary main_v33 main_v36 main_v37 (cmpf .ogt : Arr F S20000 .f32 → Arr F S20000 .f32 → Arr F S20000 .i1),
    unary main_v37 main_v38 (broadcastInDim S1x20000 ![1] bcast_S20000_S1x20000_1 : Arr F S20000 .i1 → Arr F S1x20000 .i1) ]

/-- The sums of matched keys, first part. -/
abbrev sKs1 : List (HloOp τ sig (Elt F)) :=
  [ nullary main_cst_8 (constant S_ .f32 0x00000000#32),
    unary main_cst_8 main_v39 (broadcastInDim S64x20000 ![] bcast_S_S64x20000 : Arr F S_ .f32 → Arr F S64x20000 .f32),
    unary main_v25 main_v40 (broadcastInDim S1x2048 ![1] bcast_S2048_S1x2048_1 : Arr F S2048 .f32 → Arr F S1x2048 .f32),
    unary main_v40 main_v41 (broadcastInDim S64x2048 ![0, 1] bcast_S1x2048_S64x2048_0_1 : Arr F S1x2048 .f32 → Arr F S64x2048 .f32),
    binary main_v15 main_v41 main_v42 (mulf : Arr F S64x2048 .f32 → Arr F S64x2048 .f32 → Arr F S64x2048 .f32),
    nullary main_c_9 (constantI S_ 32 0#32),
    unary main_c_9 main_v43 (broadcastInDim S2048 ![] bcast_S_S2048 : Arr F S_ .i32 → Arr F S2048 .i32),
    binary main_v19 main_v43 main_v44 (cmpi .slt : Arr F S2048 .i32 → Arr F S2048 .i32 → Arr F S2048 .i1),
    nullary main_c_10 (constantI S_ 32 20000#32),
    unary main_c_10 main_v45 (broadcastInDim S2048 ![] bcast_S_S2048 : Arr F S_ .i32 → Arr F S2048 .i32),
    binary main_v19 main_v45 main_v46 (addi : Arr F S2048 .i32 → Arr F S2048 .i32 → Arr F S2048 .i32) ]

/-- The sums of matched keys, second part. -/
abbrev sKs2 : List (HloOp τ sig (Elt F)) :=
  [ ternary main_v44 main_v46 main_v19 main_v47 (select : Arr F S2048 .i1 → Arr F S2048 .i32 → Arr F S2048 .i32 → Arr F S2048 .i32),
    unary main_v47 main_v48 (broadcastInDim S2048x1 ![0] bcast_S2048_S2048x1_0 : Arr F S2048 .i32 → Arr F S2048x1 .i32),
    ternary main_v39 main_v48 main_v42 main_v49 ((fun x i u => Host.scatterAdd scatter_S64x20000_S2048x1_S64x2048_0_1_1_1 x i u) : Arr F S64x20000 .f32 → Arr F S2048x1 .i32 → Arr F S64x2048 .f32 → Arr F S64x20000 .f32) ]

/-- The new keys. -/
abbrev sNewK : List (HloOp τ sig (Elt F)) :=
  [ unary main_v35 main_v50 (broadcastInDim S1x20000 ![1] bcast_S20000_S1x20000_1 : Arr F S20000 .f32 → Arr F S1x20000 .f32),
    unary main_v50 main_v51 (broadcastInDim S64x20000 ![0, 1] bcast_S1x20000_S64x20000_0_1 : Arr F S1x20000 .f32 → Arr F S64x20000 .f32),
    binary main_v49 main_v51 main_v52 (Host.divf : Arr F S64x20000 .f32 → Arr F S64x20000 .f32 → Arr F S64x20000 .f32),
    unary main_v16 main_v53 (broadcastInDim S1x20000 ![1] bcast_S20000_S1x20000_1 : Arr F S20000 .f32 → Arr F S1x20000 .f32),
    nullary main_cst_11 (constant S_ .f32 0x3F666666#32),
    unary main_cst_11 main_v54 (broadcastInDim S64x20000 ![] bcast_S_S64x20000 : Arr F S_ .f32 → Arr F S64x20000 .f32),
    binary main_v54 main_v7 main_v55 (mulf : Arr F S64x20000 .f32 → Arr F S64x20000 .f32 → Arr F S64x20000 .f32),
    nullary main_cst_12 (constant S_ .f32 0x3DCCCCCD#32),
    unary main_cst_12 main_v56 (broadcastInDim S64x20000 ![] bcast_S_S64x20000 : Arr F S_ .f32 → Arr F S64x20000 .f32),
    binary main_v56 main_v52 main_v57 (mulf : Arr F S64x20000 .f32 → Arr F S64x20000 .f32 → Arr F S64x20000 .f32),
    binary main_v55 main_v57 main_v58 (addf : Arr F S64x20000 .f32 → Arr F S64x20000 .f32 → Arr F S64x20000 .f32),
    unary main_v53 main_v59 (broadcastInDim S64x20000 ![0, 1] bcast_S1x20000_S64x20000_0_1 : Arr F S1x20000 .f32 → Arr F S64x20000 .f32),
    binary main_v59 main_v58 main_v60 (mulf : Arr F S64x20000 .f32 → Arr F S64x20000 .f32 → Arr F S64x20000 .f32),
    TRef.unary (TRef.of (T := ⟨S1x20000, .i1⟩) main_v38) (TRef.of (T := ⟨S64x20000, .i1⟩) main_call3_v0) (broadcastInDim S64x20000 ![0, 1] bcast_S1x20000_S64x20000_0_1),
    TRef.ternary (TRef.of (T := ⟨S64x20000, .i1⟩) main_call3_v0) (TRef.of (T := ⟨S64x20000, .f32⟩) main_v60) (TRef.of (T := ⟨S64x20000, .f32⟩) main_arg0) (TRef.of (T := ⟨S64x20000, .f32⟩) main_v61) select ]

/-- The columns of the bank's values, normalised. -/
abbrev sNv : List (HloOp τ sig (Elt F)) :=
  [ binary main_arg1 main_arg1 main_v62 (mulf : Arr F S512x20000 .f32 → Arr F S512x20000 .f32 → Arr F S512x20000 .f32),
    nullary main_cst_13 (constant S_ .f32 0x00000000#32),
    binary main_v62 main_cst_13 main_v63 ((fun x v => Host.reduceAdd x v reducesTo_S512x20000_S20000_d0 h_S_) : Arr F S512x20000 .f32 → Arr F S_ .f32 → Arr F S20000 .f32),
    unary main_v63 main_v64 (broadcastInDim S1x20000 ![1] bcast_S20000_S1x20000_1 : Arr F S20000 .f32 → Arr F S1x20000 .f32),
    unary main_v64 main_v65 (Host.sqrt : Arr F S1x20000 .f32 → Arr F S1x20000 .f32),
    nullary main_cst_14 (constant S_ .f32 0x2B8CBCCC#32),
    unary main_cst_14 main_v66 (broadcastInDim S1x20000 ![] bcast_S_S1x20000 : Arr F S_ .f32 → Arr F S1x20000 .f32),
    binary main_v65 main_v66 main_v67 (maximumf : Arr F S1x20000 .f32 → Arr F S1x20000 .f32 → Arr F S1x20000 .f32),
    unary main_v67 main_v68 (broadcastInDim S512x20000 ![0, 1] bcast_S1x20000_S512x20000_0_1 : Arr F S1x20000 .f32 → Arr F S512x20000 .f32),
    binary main_arg1 main_v68 main_v69 (Host.divf : Arr F S512x20000 .f32 → Arr F S512x20000 .f32 → Arr F S512x20000 .f32) ]

/-- The columns of the frame's values, normalised. -/
abbrev sNpv : List (HloOp τ sig (Elt F)) :=
  [ binary main_arg3 main_arg3 main_v70 (mulf : Arr F S512x2048 .f32 → Arr F S512x2048 .f32 → Arr F S512x2048 .f32),
    nullary main_cst_15 (constant S_ .f32 0x00000000#32),
    binary main_v70 main_cst_15 main_v71 ((fun x v => Host.reduceAdd x v reducesTo_S512x2048_S2048_d0 h_S_) : Arr F S512x2048 .f32 → Arr F S_ .f32 → Arr F S2048 .f32),
    unary main_v71 main_v72 (broadcastInDim S1x2048 ![1] bcast_S2048_S1x2048_1 : Arr F S2048 .f32 → Arr F S1x2048 .f32),
    unary main_v72 main_v73 (Host.sqrt : Arr F S1x2048 .f32 → Arr F S1x2048 .f32),
    nullary main_cst_16 (constant S_ .f32 0x2B8CBCCC#32),
    unary main_cst_16 main_v74 (broadcastInDim S1x2048 ![] bcast_S_S1x2048 : Arr F S_ .f32 → Arr F S1x2048 .f32),
    binary main_v73 main_v74 main_v75 (maximumf : Arr F S1x2048 .f32 → Arr F S1x2048 .f32 → Arr F S1x2048 .f32),
    unary main_v75 main_v76 (broadcastInDim S512x2048 ![0, 1] bcast_S1x2048_S512x2048_0_1 : Arr F S1x2048 .f32 → Arr F S512x2048 .f32),
    binary main_arg3 main_v76 main_v77 (Host.divf : Arr F S512x2048 .f32 → Arr F S512x2048 .f32 → Arr F S512x2048 .f32) ]

/-- The lengths of the bank's value columns. -/
abbrev sMagV : List (HloOp τ sig (Elt F)) :=
  [ TRef.binary (TRef.of (T := ⟨S512x20000, .f32⟩) main_arg1) (TRef.of (T := ⟨S512x20000, .f32⟩) main_arg1) (TRef.of (T := ⟨S512x20000, .f32⟩) main_call4_v0) mulf,
    TRef.nullary (TRef.of (T := ⟨S_, .f32⟩) main_call4_cst) (constant S_ .f32 0x00000000#32),
    TRef.binary (TRef.of (T := ⟨S512x20000, .f32⟩) main_call4_v0) (TRef.of (T := ⟨S_, .f32⟩) main_call4_cst) (TRef.of (T := ⟨S20000, .f32⟩) main_call4_v1) (fun x v => Host.reduceAdd x v reducesTo_S512x20000_S20000_d0 h_S_),
    TRef.unary (TRef.of (T := ⟨S20000, .f32⟩) main_call4_v1) (TRef.of (T := ⟨S20000, .f32⟩) main_v78) Host.sqrt ]

/-- The sums of matched values. -/
abbrev sVs : List (HloOp τ sig (Elt F)) :=
  [ nullary main_cst_17 (constant S_ .f32 0x00000000#32),
    unary main_cst_17 main_v79 (broadcastInDim S512x20000 ![] bcast_S_S512x20000 : Arr F S_ .f32 → Arr F S512x20000 .f32),
    unary main_v25 main_v80 (broadcastInDim S1x2048 ![1] bcast_S2048_S1x2048_1 : Arr F S2048 .f32 → Arr F S1x2048 .f32),
    unary main_v80 main_v81 (broadcastInDim S512x2048 ![0, 1] bcast_S1x2048_S512x2048_0_1 : Arr F S1x2048 .f32 → Arr F S512x2048 .f32),
    binary main_v77 main_v81 main_v82 (mulf : Arr F S512x2048 .f32 → Arr F S512x2048 .f32 → Arr F S512x2048 .f32),
    nullary main_c_18 (constantI S_ 32 0#32),
    unary main_c_18 main_v83 (broadcastInDim S2048 ![] bcast_S_S2048 : Arr F S_ .i32 → Arr F S2048 .i32),
    binary main_v19 main_v83 main_v84 (cmpi .slt : Arr F S2048 .i32 → Arr F S2048 .i32 → Arr F S2048 .i1),
    nullary main_c_19 (constantI S_ 32 20000#32),
    unary main_c_19 main_v85 (broadcastInDim S2048 ![] bcast_S_S2048 : Arr F S_ .i32 → Arr F S2048 .i32),
    binary main_v19 main_v85 main_v86 (addi : Arr F S2048 .i32 → Arr F S2048 .i32 → Arr F S2048 .i32),
    ternary main_v84 main_v86 main_v19 main_v87 (select : Arr F S2048 .i1 → Arr F S2048 .i32 → Arr F S2048 .i32 → Arr F S2048 .i32),
    unary main_v87 main_v88 (broadcastInDim S2048x1 ![0] bcast_S2048_S2048x1_0 : Arr F S2048 .i32 → Arr F S2048x1 .i32),
    ternary main_v79 main_v88 main_v82 main_v89 ((fun x i u => Host.scatterAdd scatter_S512x20000_S2048x1_S512x2048_0_1_1_1 x i u) : Arr F S512x20000 .f32 → Arr F S2048x1 .i32 → Arr F S512x2048 .f32 → Arr F S512x20000 .f32) ]

/-- The new values, first part. -/
abbrev sNewV1 : List (HloOp τ sig (Elt F)) :=
  [ unary main_v35 main_v90 (broadcastInDim S1x20000 ![1] bcast_S20000_S1x20000_1 : Arr F S20000 .f32 → Arr F S1x20000 .f32),
    unary main_v90 main_v91 (broadcastInDim S512x20000 ![0, 1] bcast_S1x20000_S512x20000_0_1 : Arr F S1x20000 .f32 → Arr F S512x20000 .f32),
    binary main_v89 main_v91 main_v92 (Host.divf : Arr F S512x20000 .f32 → Arr F S512x20000 .f32 → Arr F S512x20000 .f32),
    unary main_v78 main_v93 (broadcastInDim S1x20000 ![1] bcast_S20000_S1x20000_1 : Arr F S20000 .f32 → Arr F S1x20000 .f32),
    nullary main_cst_20 (constant S_ .f32 0x3F666666#32),
    unary main_cst_20 main_v94 (broadcastInDim S512x20000 ![] bcast_S_S512x20000 : Arr F S_ .f32 → Arr F S512x20000 .f32),
    binary main_v94 main_v69 main_v95 (mulf : Arr F S512x20000 .f32 → Arr F S512x20000 .f32 → Arr F S512x20000 .f32),
    nullary main_cst_21 (constant S_ .f32 0x3DCCCCCD#32) ]

/-- The new values, second part. -/
abbrev sNewV2 : List (HloOp τ sig (Elt F)) :=
  [ unary main_cst_21 main_v96 (broadcastInDim S512x20000 ![] bcast_S_S512x20000 : Arr F S_ .f32 → Arr F S512x20000 .f32),
    binary main_v96 main_v92 main_v97 (mulf : Arr F S512x20000 .f32 → Arr F S512x20000 .f32 → Arr F S512x20000 .f32),
    binary main_v95 main_v97 main_v98 (addf : Arr F S512x20000 .f32 → Arr F S512x20000 .f32 → Arr F S512x20000 .f32),
    unary main_v93 main_v99 (broadcastInDim S512x20000 ![0, 1] bcast_S1x20000_S512x20000_0_1 : Arr F S1x20000 .f32 → Arr F S512x20000 .f32),
    binary main_v99 main_v98 main_v100 (mulf : Arr F S512x20000 .f32 → Arr F S512x20000 .f32 → Arr F S512x20000 .f32),
    TRef.unary (TRef.of (T := ⟨S1x20000, .i1⟩) main_v38) (TRef.of (T := ⟨S512x20000, .i1⟩) main_call5_v0) (broadcastInDim S512x20000 ![0, 1] bcast_S1x20000_S512x20000_0_1),
    TRef.ternary (TRef.of (T := ⟨S512x20000, .i1⟩) main_call5_v0) (TRef.of (T := ⟨S512x20000, .f32⟩) main_v100) (TRef.of (T := ⟨S512x20000, .f32⟩) main_arg1) (TRef.of (T := ⟨S512x20000, .f32⟩) main_v101) select ]

/-- Keys above values. -/
abbrev sCat : List (HloOp τ sig (Elt F)) :=
  [ binary main_v61 main_v101 main_v102 ((fun a b => concatenate S576x20000 0 [⟨S64x20000, a⟩, ⟨S512x20000, b⟩] concatenates_S64x20000_S512x20000_S576x20000_d0) : Arr F S64x20000 .f32 → Arr F S512x20000 .f32 → Arr F S576x20000 .f32) ]

/-- The operations of the first part. -/
def part0 : List (HloOp τ sig (Elt F)) :=
  sNk ++ (sNpk ++ (sMagK ++ (sCorr ++ (sArg ++ (sTake ++ (sClose ++ (sCnt ++ (sKs1))))))))
/-- The operations of the second part. -/
def part1 : List (HloOp τ sig (Elt F)) :=
  sKs2 ++ (sNewK ++ (sNv ++ (sNpv ++ (sMagV ++ (sVs ++ (sNewV1))))))
/-- The operations of the third part. -/
def part2 : List (HloOp τ sig (Elt F)) :=
  sNewV2 ++ (sCat)
/-- All the operations, in order. -/
def ops : List (HloOp τ sig (Elt F)) := part0 ++ (part1 ++ part2)

/-- The buffers written, in order: each once. -/
abbrev written : List (Ref sig .tc) :=
  [ main_v0, main_cst, main_v1, main_v2, main_v3, main_cst_0, main_v4, main_v5, main_v6, main_v7,
    main_v8, main_cst_1, main_v9, main_v10, main_v11, main_cst_2, main_v12, main_v13, main_v14, main_v15,
    main_call0_v0, main_call0_cst, main_call0_v1, main_v16,
    main_v17, main_v18,
    main_call1_v0, main_call1_cst, main_call1_c, main_call1_v1_0, main_v19,
    main_v20, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v21, main_v22,
    main_cst_3, main_v23, main_v24, main_v25,
    main_cst_4, main_v26, main_c, main_v27, main_v28, main_c_5, main_v29, main_v30, main_v31, main_v32, main_v33, main_cst_6, main_v34, main_v35, main_cst_7, main_v36, main_v37, main_v38,
    main_cst_8, main_v39, main_v40, main_v41, main_v42, main_c_9, main_v43, main_v44, main_c_10, main_v45, main_v46,
    main_v47, main_v48, main_v49,
    main_v50, main_v51, main_v52, main_v53, main_cst_11, main_v54, main_v55, main_cst_12, main_v56, main_v57, main_v58, main_v59, main_v60, main_call3_v0, main_v61,
    main_v62, main_cst_13, main_v63, main_v64, main_v65, main_cst_14, main_v66, main_v67, main_v68, main_v69,
    main_v70, main_cst_15, main_v71, main_v72, main_v73, main_cst_16, main_v74, main_v75, main_v76, main_v77,
    main_call4_v0, main_call4_cst, main_call4_v1, main_v78,
    main_cst_17, main_v79, main_v80, main_v81, main_v82, main_c_18, main_v83, main_v84, main_c_19, main_v85, main_v86, main_v87, main_v88, main_v89,
    main_v90, main_v91, main_v92, main_v93, main_cst_20, main_v94, main_v95, main_cst_21,
    main_v96, main_v97, main_v98, main_v99, main_v100, main_call5_v0, main_v101,
    main_v102 ]

set_option maxRecDepth 8192 in
set_option maxHeartbeats 4000000 in
theorem part0_eq (c : Dev nD) : main_part0 (F := F) c = seq part0 := rfl
set_option maxRecDepth 8192 in
set_option maxHeartbeats 4000000 in
theorem part1_eq (c : Dev nD) : main_part1 (F := F) c = seq part1 := rfl
set_option maxRecDepth 8192 in
theorem part2_eq (c : Dev nD) : main_part2 (F := F) c = seq part2 := rfl

/-- The program is the line of its operations. -/
theorem main_eq (c : Dev nD) : main (F := F) c = seq ops := by
  simp only [ops, seq_append, ← part0_eq c, ← part1_eq c, ← part2_eq c]
  rfl

theorem noScopedRefs : (Finset.univ.filter fun b : Ref sig .tc => b.isScoped) = ∅ := by decide
theorem noScopedSems : (Finset.univ.filter fun sm : SemLoc sig => sm.isScoped .tc) = ∅ := by decide

set_option maxRecDepth 8192 in
set_option maxHeartbeats 4000000 in
/-- What the operations write is the list of buffers. -/
theorem ops_writes :
    (ops (F := F)).map HloOp.writes = written.map fun r => {Proc.devRef (τ := τ) .tc r} := rfl

set_option maxRecDepth 8192 in
set_option maxHeartbeats 4000000 in
theorem ops_fresh : ∀ op ∈ (ops : List (HloOp τ sig (Elt F))), op.fresh = ∅ :=
  List.forall_iff_forall_mem.mp (forall_fresh_of_map rfl)

set_option maxRecDepth 8192 in
set_option maxHeartbeats 4000000 in
theorem ops_sub : (ops : List (HloOp τ sig (Elt F))).Forall fun op => op.bufs ⊆ tcRefs τ sig := by
  simp only [ops, part0, part1, part2, List.cons_append, List.nil_append, List.forall_cons, List.Forall,
    nullary_bufs_sub, unary_bufs_sub, binary_bufs_sub, ternary_bufs_sub, quaternary_bufs_sub, reshape_bufs_sub, and_self]

/-! ## What the buffers hold at the end -/

/-- A device's buffers after the whole program. -/
def fin (V : Valuation τ sig (Elt F)) : Valuation τ sig (Elt F) := after ops V

theorem writes_drop (i : ℕ) : ((ops (F := F)).drop i).Forall fun op =>
    op.writes ⊆ (((written.drop i)).map (Proc.devRef (τ := τ) .tc)).toFinset :=
  forall_writes_sub_of_map (by rw [List.map_drop, List.map_drop, ops_writes])

/-- A buffer not written from operation `i` on holds at the end what it holds before operation `i`. -/
theorem inp (i : ℕ) (V : Valuation τ sig (Elt F)) (r : Ref sig .tc) (h : r ∉ written.drop i) :
    after (ops.take i) V (Proc.devRef .tc r) = fin V (Proc.devRef .tc r) := by
  have e : fin V = after (ops.drop i) (after (ops.take i) V) := by
    rw [← after_append, List.take_append_drop]; rfl
  rw [e]
  exact (after_of_writes_sub _ _ (writes_drop i) h).symm

/-- A result of the stretch `s` of `n` operations from operation `i`, not written after it, at the end. -/
theorem stage (i n : ℕ) (s : List (HloOp τ sig (Elt F))) (hs : (ops.drop i).take n = s)
    (V : Valuation τ sig (Elt F)) (r : Ref sig .tc) (h : r ∉ written.drop (i + n)) :
    fin V (Proc.devRef .tc r) = after s (after (ops.take i) V) (Proc.devRef .tc r) := by
  rw [← inp (i + n) V r h, ← hs, List.take_add, after_append]

/-- An argument holds what it held. -/
theorem fin_arg (V : Valuation τ sig (Elt F)) (r : Ref sig .tc) (h : r ∉ written) :
    fin V (Proc.devRef .tc r) = V (Proc.devRef .tc r) :=
  (inp 0 V r h).symm

/-- The run: every execution ends with the buffers at `fin` of what they held, every counter at zero. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = fin (launchContents m c) (Proc.devRef .tc b) :=
  run_seq noScopedRefs noScopedSems defs main (fun _ => ops) main_eq (fun _ => ops_sub) m ρ fun _ => ops_fresh

end Cert.ReferenceIdeal.Bank

end
-- ==== Proof.Frames.lean ====
/- The frames: each program runs to an end without a fault, its arguments unchanged, every counter back at zero.

   The two readings of the kernel have one text, so the run proved for any float values serves both. -/
module

public import proofs.«01_k».proof.Defs
public import proofs.«01_k».proof.Proof.Gen.Kernel
public import proofs.«01_k».proof.Proof.Run
public import proofs.«01_k».proof.Proof.RefRun
public import Idealize.ShloMosaic.Lib.Quiescent

@[expose] public section

noncomputable section

namespace Cert.Bank

open Idealize.ShloMosaic Idealize.ShloMosaic.StableHlo Idealize.SL.Sem

/-- The run of the kernel's text at any float values, read at the arguments and the counters. -/
theorem frame_text {F : FTy → Type} [FloatOps F] [∀ e, Nonempty (Elt F e)]
    (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3)
            = m ((c.tc : Thread Cert.KernelIdeal.nD Cert.KernelIdeal.τ).loc Cert.KernelIdeal.main_arg3))
        ∧ r.2.sem = fun _ => 0) :=
  (θ_run _ _ _).mono (fun _ h => ⟨fun c => let ⟨h0, h1, h2, h3, _⟩ := h.1 c; ⟨h0, h1, h2, h3⟩, h.2⟩)
    (Cert.KernelIdeal.Bank.run_main (F := F) m g)

/-- The idealized kernel's frame. -/
theorem frame_ideal : Cert.quiescent_KernelIdeal (hKernelIdeal := Cert.KernelIdeal.Gen.facts) :=
  fun m g _ => frame_text (F := Ideal) m g

/-- The reference's frame. -/
theorem frame_reference : Cert.quiescent_ReferenceIdeal (hReferenceIdeal := Cert.ReferenceIdeal.Gen.facts) := fun m g _ =>
  (θ_run _ _ _).mono (fun r h =>
    ⟨fun c => ⟨(h c Cert.ReferenceIdeal.main_arg0).trans (Cert.ReferenceIdeal.Bank.fin_arg _ _ (by decide)),
        (h c Cert.ReferenceIdeal.main_arg1).trans (Cert.ReferenceIdeal.Bank.fin_arg _ _ (by decide)),
        (h c Cert.ReferenceIdeal.main_arg2).trans (Cert.ReferenceIdeal.Bank.fin_arg _ _ (by decide)),
        (h c Cert.ReferenceIdeal.main_arg3).trans (Cert.ReferenceIdeal.Bank.fin_arg _ _ (by decide))⟩,
      sem_eq_zero_of_no_sems rfl _⟩) (Cert.ReferenceIdeal.Bank.run_main (F := Ideal) m g)

section TextEq

local instance : Cert.Kernel.Facts := Cert.Kernel.Gen.facts
local instance : Cert.KernelIdeal.Facts := Cert.KernelIdeal.Gen.facts

set_option maxRecDepth 20000
set_option maxHeartbeats 4000000

/-! The two printed texts of the kernel are one program at the float words. -/

theorem body0_eq : @Cert.Kernel.cc0__max_kernel Bits _ _ = @Cert.KernelIdeal.cc0__max_kernel Bits _ _ := rfl
theorem body1_eq : @Cert.Kernel.cc1__idx_kernel Bits _ _ = @Cert.KernelIdeal.cc1__idx_kernel Bits _ _ := rfl
theorem body2_eq : @Cert.Kernel.cc2__update_kernel Bits _ _ = @Cert.KernelIdeal.cc2__update_kernel Bits _ _ := rfl

theorem bodies_eq : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | 0, (t, s) => dsimp only; rw [body0_eq]; rfl
  | 1, (t, s) => dsimp only; rw [body1_eq]; rfl
  | 2, (t, s) => dsimp only; rw [body2_eq]; rfl

theorem defs_eq : Cert.Kernel.defs (F := Bits) = Cert.KernelIdeal.defs (F := Bits) :=
  congrArg (Pipeline.defs _) bodies_eq

/-- The kernel's frame: its text is the idealized kernel's, read at the float words. -/
theorem frame_kernel : Cert.quiescent_Kernel (hKernel := Cert.Kernel.Gen.facts) := fun m g _ => by
  rw [defs_eq]
  exact frame_text (F := Bits) m g

end TextEq

end Cert.Bank

end
-- ==== Proof.Spec.lean ====
/-
  The bank update on extended reals, one column at a time: normalised columns, correlations, the first best match
  of each frame column, and the moved averages of the bank's columns that were matched closely.
-/
module

public import Idealize.ShloMosaic.Lib.ValueIdx
public import Idealize.ShloMosaic.PureOps.Ideal.Laws
public import Idealize.ShloMosaic.Lib.IdealHost

@[expose] public section

noncomputable section

namespace Cert.Bank

open Idealize.ShloMosaic Idealize.ShloMosaic.ValueIdx
open scoped Classical

/-- The least divisor of a column's length. -/
abbrev eps : EReal := Ideal.ofBits .f32 0x2B8CBCCC#32
/-- The correlation above which a match is close. -/
abbrev thr : EReal := Ideal.ofBits .f32 0x3F733333#32
/-- The share of the old column that is kept. -/
abbrev keep : EReal := Ideal.ofBits .f32 0x3F666666#32
/-- The share of the update. -/
abbrev rate : EReal := Ideal.ofBits .f32 0x3DCCCCCD#32

/-- The word of minus infinity. -/
theorem ofBits_neg_inf : Ideal.ofBits .f32 0xFF800000#32 = ⊥ := by
  simp [Ideal.ofBits, Ideal.ieee]

/-- The least divisor is positive. -/
theorem eps_pos : 0 < eps := by
  have h : eps = ((9223372 * (2 : ℝ) ^ (-63 : ℤ) : ℝ) : EReal) := by simp [eps, Ideal.ofBits, Ideal.ieee, -EReal.coe_mul]
  rw [h]; exact EReal.coe_pos.2 (by positivity)

/-- So is the threshold. -/
theorem thr_pos : 0 < thr := by
  have h : thr = ((15938355 * (2 : ℝ) ^ (-24 : ℤ) : ℝ) : EReal) := by simp [thr, Ideal.ofBits, Ideal.ieee, -EReal.coe_mul]
  rw [h]; exact EReal.coe_pos.2 (by positivity)

/-- Column `y` of a matrix. -/
def col {n m : ℕ} (A : (⟨2, ![n, m]⟩ : Shape).Idx → EReal) (y : Fin m) : Fin n → EReal := fun i => A (ix2 i y)

/-- The length of a column. -/
def len {n : ℕ} (f : Fin n → EReal) : EReal := Ideal.sqrt (∑ k, f k * f k)

/-- A column divided by its length, the divisor at least `eps`. -/
def dir {n : ℕ} (f : Fin n → EReal) (i : Fin n) : EReal := Ideal.div (f i) (max (len f) eps)

/-- The correlation of two columns. -/
def corr {n : ℕ} (f g : Fin n → EReal) : EReal := ∑ k, dir f k * dir g k

/-- The zero column has the zero direction. -/
theorem dir_zero {n : ℕ} (i : Fin n) : dir (fun _ : Fin n => (0 : EReal)) i = 0 := by
  have h : max (len fun _ : Fin n => (0 : EReal)) eps ≠ 0 := (lt_of_lt_of_le eps_pos (le_max_right _ _)).ne'
  unfold dir Ideal.div
  rw [if_neg h, zero_mul]

/-- The zero column correlates with nothing. -/
theorem corr_zero {n : ℕ} (g : Fin n → EReal) : corr (fun _ => 0) g = 0 := by
  unfold corr
  exact Finset.sum_eq_zero fun k _ => by rw [dir_zero, zero_mul]

/-- A finite family has a first greatest member. -/
theorem exists_first {n : ℕ} [NeZero n] (f : Fin n → EReal) : ∃ a, (∀ r, f r ≤ f a) ∧ ∀ r, r < a → f r < f a := by
  obtain ⟨m, hm⟩ := Finite.exists_max f
  obtain ⟨a, ha, hmin⟩ := WellFounded.has_min (α := Fin n) (r := (· < ·)) wellFounded_lt {a | ∀ r, f r ≤ f a} ⟨m, hm⟩
  exact ⟨a, ha, fun r hr => lt_of_le_of_ne (ha r) fun e => hmin r (fun s => e ▸ ha s) hr⟩

/-- The position of the first greatest member. -/
def first {n : ℕ} [NeZero n] (f : Fin n → EReal) : Fin n := (exists_first f).choose

/-- Nothing is above the first greatest member. -/
theorem le_first {n : ℕ} [NeZero n] (f : Fin n → EReal) (r : Fin n) : f r ≤ f (first f) := (exists_first f).choose_spec.1 r
/-- What comes before it is below it. -/
theorem lt_first {n : ℕ} [NeZero n] (f : Fin n → EReal) (r : Fin n) (h : r < first f) : f r < f (first f) :=
  (exists_first f).choose_spec.2 r h

/-- Nothing else is the first greatest member. -/
theorem eq_first {n : ℕ} [NeZero n] (f : Fin n → EReal) (a : Fin n) (ha : ∀ r, f r ≤ f a) (hl : ∀ r, r < a → f r < f a) :
    first f = a := by
  rcases lt_trichotomy (first f) a with h | h | h
  · exact absurd (le_first f a) (not_le.2 (hl _ h))
  · exact h
  · exact absurd (ha (first f)) (not_le.2 (lt_first f a h))

/-- The correlations of frame column `j` with the bank's columns. -/
def scores (K : (⟨2, ![64, 20000]⟩ : Shape).Idx → EReal) (P : (⟨2, ![64, 2048]⟩ : Shape).Idx → EReal) (j : Fin 2048) :
    Fin 20000 → EReal := fun r => corr (col K r) (col P j)

/-- Frame column `j` matches bank column `c` closely. -/
def Hit (K : (⟨2, ![64, 20000]⟩ : Shape).Idx → EReal) (P : (⟨2, ![64, 2048]⟩ : Shape).Idx → EReal) (c : Fin 20000) (j : Fin 2048) :
    Prop := first (scores K P j) = c ∧ thr < scores K P j (first (scores K P j))

/-- How many frame columns match bank column `c` closely. -/
def count (K : (⟨2, ![64, 20000]⟩ : Shape).Idx → EReal) (P : (⟨2, ![64, 2048]⟩ : Shape).Idx → EReal) (c : Fin 20000) : EReal :=
  ∑ j : Fin 2048, if Hit K P c j then 1 else 0

/-- The sum of the directions of the columns of `Q` whose frame columns match bank column `c` closely. -/
def total {n : ℕ} (K : (⟨2, ![64, 20000]⟩ : Shape).Idx → EReal) (P : (⟨2, ![64, 2048]⟩ : Shape).Idx → EReal)
    (Q : (⟨2, ![n, 2048]⟩ : Shape).Idx → EReal) (i : Fin n) (c : Fin 20000) : EReal :=
  ∑ j : Fin 2048, if Hit K P c j then dir (col Q j) i else 0

/-- A column `f` moved towards the mean of `s` over `k` matches, its length kept; unmoved where there is no match. -/
def moved {n : ℕ} (f : Fin n → EReal) (k s : EReal) (i : Fin n) : EReal :=
  if 0 < k then len f * (keep * dir f i + rate * Ideal.div s (max k 1)) else f i

/-- The bank's array `A` after the update by the frame's array `Q`. -/
def fresh {n : ℕ} (K : (⟨2, ![64, 20000]⟩ : Shape).Idx → EReal) (P : (⟨2, ![64, 2048]⟩ : Shape).Idx → EReal)
    (A : (⟨2, ![n, 20000]⟩ : Shape).Idx → EReal) (Q : (⟨2, ![n, 2048]⟩ : Shape).Idx → EReal) (i : Fin n) (c : Fin 20000) : EReal :=
  moved (col A c) (count K P c) (total K P Q i c) i

/-- The result: the updated keys above the updated values. -/
def result (K : (⟨2, ![64, 20000]⟩ : Shape).Idx → EReal) (W : (⟨2, ![512, 20000]⟩ : Shape).Idx → EReal)
    (P : (⟨2, ![64, 2048]⟩ : Shape).Idx → EReal) (Q : (⟨2, ![512, 2048]⟩ : Shape).Idx → EReal) :
    (⟨2, ![576, 20000]⟩ : Shape).Idx → EReal := fun y =>
  if h : (y 0).val < 64 then fresh K P K P ⟨(y 0).val, h⟩ (y 1)
  else fresh K P W Q ⟨(y 0).val - 64, by have := idx2_lt0 y; omega⟩ (y 1)

end Cert.Bank

end
-- ==== Proof.Ops.lean ====
/-
  The kernels' column operations read at one element on extended reals.
-/
module

public import proofs.«01_k».proof.Proof.Spec
public import Idealize.ShloMosaic.Lib.ValueLayout
public import Idealize.ShloMosaic.Lib.KernelVsHost
public import Idealize.ShloMosaic.Lib.IdealHost

@[expose] public section

noncomputable section

namespace Cert.Bank

open Idealize.ShloMosaic Idealize.ShloMosaic.ValueIdx

variable {n m : ℕ}

/-- A reshape to the same shape changes nothing. -/
theorem cast_self {s : Shape} {α : Type} (x : s.Idx → α) (h : s.ShapeCasts s) : shapeCast s x h = x :=
  funext fun j => shapeCast_apply x h j j rfl

/-- The index over column `y` whose row is `k`. -/
theorem lift_rows (h : (⟨2, ![n, m]⟩ : Shape).Reduces [0] ⟨1, ![m]⟩) (y : Fin m) (k : Fin n) : h.lift (ix1 y) k = ix2 k y := by
  funext a
  match a with
  | ⟨0, _⟩ => rfl
  | ⟨1, _⟩ => rfl

/-- A column's length, as a kernel takes it. -/
theorem len_kernel (v : FVec Ideal ⟨2, ![n, m]⟩ .f32) (h : (⟨2, ![n, m]⟩ : Shape).Reduces [0] ⟨1, ![m]⟩)
    (hφ : FKind.Formats .f32) (ha : (0x00000000#32 : BitVec 32) = FKind.add.neutral .f32 hφ)
    (hc : (⟨1, ![m]⟩ : Shape).ShapeCasts ⟨2, ![1, m]⟩) (u : Fin 1) (y : Fin m) :
    sqrt (shapeCast ⟨2, ![1, m]⟩ (multiReduction .add [0] ⟨1, ![m]⟩ (mulf v v) 0x00000000#32 h hφ ha) hc) (ix2 u y) = len (col v y) := by
  show Ideal.sqrt (shapeCast ⟨2, ![1, m]⟩ _ hc (ix2 u y)) = _
  rw [shapeCast_a_1a_apply]
  rw [Ideal.multiReduction_add_single]
  refine congrArg Ideal.sqrt (Finset.sum_congr rfl fun k _ => ?_)
  rw [lift_rows h y k]; rfl

/-- A column's direction, as a kernel takes it. -/
theorem dir_kernel (v : FVec Ideal ⟨2, ![n, m]⟩ .f32) (h : (⟨2, ![n, m]⟩ : Shape).Reduces [0] ⟨1, ![m]⟩)
    (hφ : FKind.Formats .f32) (ha : (0x00000000#32 : BitVec 32) = FKind.add.neutral .f32 hφ)
    (hc : (⟨1, ![m]⟩ : Shape).ShapeCasts ⟨2, ![1, m]⟩) (hb : (⟨2, ![1, m]⟩ : Shape).Broadcasts ⟨2, ![n, m]⟩) (i : Fin n) (y : Fin m) :
    divf v (broadcastTo ⟨2, ![n, m]⟩ (maximumf (sqrt (shapeCast ⟨2, ![1, m]⟩ (multiReduction .add [0] ⟨1, ![m]⟩ (mulf v v) 0x00000000#32 h hφ ha) hc))
      (broadcast ⟨2, ![1, m]⟩ (Scalar.ofBits .f32 0x2B8CBCCC#32))) hb) (ix2 i y) = dir (col v y) i := by
  show Ideal.div (v (ix2 i y)) (broadcastTo ⟨2, ![n, m]⟩ _ hb (ix2 i y)) = _
  rw [broadcastTo_1b_ab_apply]
  exact congrArg (fun t => Ideal.div (v (ix2 i y)) (max t eps)) (len_kernel v h hφ ha hc 0 y)

end Cert.Bank

end
-- ==== Proof.Search.lean ====
/-
  The two search kernels on extended reals: what one tile of the bank adds to the running maximum and to the
  running index of the first row at the maximum.
-/
module

public import proofs.«01_k».proof.Proof.Pad
public import proofs.«01_k».proof.Proof.Ops
public import Idealize.ShloMosaic.Lib.MatmulPlain
public import Idealize.ShloMosaic.Lib.WordSum
public import Idealize.ShloMosaic.Lib.ValueIdxCoords

@[expose] public section

noncomputable section

namespace Cert.KernelIdeal.Bank

open Cert.KernelIdeal Cert.KernelIdeal.Gen Cert.Bank
open Idealize.ShloMosaic Idealize.ShloMosaic.ValueIdx

/-! ## The correlations of one tile -/

/-- The product of a matrix' columns with another's: the sum over the rows. -/
theorem matmul_cols (A : FVec Ideal S64x512 .f32) (B : FVec Ideal S64x2048 .f32) (y : Fin 512) (j : Fin 2048) :
    matmul dot_S64x512_S64x2048_S512x2048_0_0_1_1_n_n none A B (constant S512x2048 .f32 0x00000000#32) (ix2 y j)
      = ∑ k : Fin 64, A (ix2 k y) * B (ix2 k j) := by
  simp only [matmul]
  rw [Ideal.matmul_constant_zero_apply,
    ← Equiv.sum_comp (contrEquiv1 dot_S64x512_S64x2048_S512x2048_0_0_1_1_n_n 64 rfl rfl).symm]
  refine Finset.sum_congr rfl fun k _ => ?_
  have hk := contrEquiv1_symm_val dot_S64x512_S64x2048_S512x2048_0_0_1_1_n_n 64 rfl rfl k
  have el : dot_S64x512_S64x2048_S512x2048_0_0_1_1_n_n.lhsIdx (ix2 y j) ((contrEquiv1 _ 64 rfl rfl).symm k) = ix2 k y := by
    funext a; apply Fin.ext
    match a with
    | ⟨0, _⟩ => exact hk
    | ⟨1, _⟩ => rfl
  have er : dot_S64x512_S64x2048_S512x2048_0_0_1_1_n_n.rhsIdx (ix2 y j) ((contrEquiv1 _ 64 rfl rfl).symm k) = ix2 k j := by
    funext a; apply Fin.ext
    match a with
    | ⟨0, _⟩ => exact hk
    | ⟨1, _⟩ => rfl
  rw [el, er]

/-- The correlation with row `r` of the padded bank. -/
def score (K : S64x20000.Idx → EReal) (P : S64x2048.Idx → EReal) (j : Fin 2048) (r : ℕ) : EReal :=
  if h : r < 20000 then scores K P j ⟨r, h⟩ else 0

/-- A tile holds the columns of `K` from `512 n` on. -/
def Holds {R : ℕ} (K : (⟨2, ![R, 20000]⟩ : Shape).Idx → EReal) (n : ℕ) (X : (⟨2, ![R, 512]⟩ : Shape).Idx → EReal) : Prop :=
  ∀ (i : Fin R) (y : Fin 512) (h : 512 * n + y.val < 20000), X (ix2 i y) = K (ix2 i ⟨512 * n + y.val, h⟩)

/-- The normalised frame keys, as the kernels keep them. -/
theorem pay1_apply (P : S64x2048.Idx → EReal) (i : Fin 64) (j : Fin 2048) : k0_pay1 (F := Ideal) P (ix2 i j) = dir (col P j) i := by
  unfold k0_pay1
  dsimp only
  rw [cast_self]
  exact dir_kernel _ _ _ _ _ _ i j

/-- The correlations of a tile's rows with the frame, as both search kernels compute them. -/
def tileScores (n : ℕ) (S : FVec Ideal S64x2048 .f32) (X : FVec Ideal S64x512 .f32) : FVec Ideal S512x2048 .f32 :=
  matmul dot_S64x512_S64x2048_S512x2048_0_0_1_1_n_n none
    (divf (select (maskOf n) X (broadcast S64x512 (Scalar.ofBits .f32 0x00000000#32)))
      (broadcastTo S64x512 (maximumf (sqrt (shapeCast S1x512 (multiReduction .add [0] S512
          (mulf (select (maskOf n) X (broadcast S64x512 (Scalar.ofBits .f32 0x00000000#32))) (select (maskOf n) X (broadcast S64x512 (Scalar.ofBits .f32 0x00000000#32))))
          0x00000000#32 reduces_S64x512_S512 (.inl rfl) rfl) shapeCasts_S512_S1x512))
        (broadcast S1x512 (Scalar.ofBits .f32 0x2B8CBCCC#32))) broadcasts_S1x512_S64x512)) S (constant S512x2048 .f32 0x00000000#32)

/-- They are the correlations with the padded bank. -/
theorem tileScores_apply (K : S64x20000.Idx → EReal) (P : S64x2048.Idx → EReal) (n : ℕ) (hn : n < 40) (X : S64x512.Idx → EReal)
    (hX : Holds K n X) (y : Fin 512) (j : Fin 2048) :
    tileScores n (k0_pay1 (F := Ideal) P) X (ix2 y j) = score K P j (512 * n + y.val) := by
  unfold tileScores
  rw [matmul_cols]
  have hc : col (select (maskOf n) X (broadcast S64x512 (Scalar.ofBits (F := Ideal) .f32 0x00000000#32))) y
      = if h : 512 * n + y.val < 20000 then col K ⟨512 * n + y.val, h⟩ else fun _ => 0 := by
    funext i
    show (if maskOf n (ix2 i y) = 1#1 then X (ix2 i y) else Ideal.ofBits .f32 0x00000000#32) = _
    rw [maskOf_apply n hn]
    by_cases h : 512 * n + y.val < 20000
    · simp only [ix2_1, h, decide_true, BitVec.ofBool_true, if_true, dif_pos]
      exact hX i y h
    · simp [ix2_1, h]
  refine (Finset.sum_congr rfl fun k _ => congrArg₂ (· * ·) (dir_kernel _ _ _ _ _ _ k y) (pay1_apply P k j)).trans ?_
  show corr (col _ y) (col P j) = _
  rw [hc]
  unfold score scores
  split
  · rfl
  · exact corr_zero _

/-! ## The running maximum -/

/-- After a tile the running maximum is the greater of itself and the tile's greatest correlation. -/
theorem pay3_max (K : S64x20000.Idx → EReal) (P : S64x2048.Idx → EReal) (i : grid0.Coords) (X : S64x512.Idx → EReal)
    (hX : Holds K (i 0).val X) (M : S1x2048.Idx → EReal) (j : Fin 2048) :
    ∃ v, k0_pay3 (F := Ideal) i (k0_pay1 (F := Ideal) P) X M (ix2 0 j) = max (M (ix2 0 j)) v
      ∧ (∃ y : Fin 512, v = score K P j (512 * (i 0).val + y.val)) ∧ ∀ y : Fin 512, score K P j (512 * (i 0).val + y.val) ≤ v := by
  have hn : (i 0).val < 40 := (i 0).isLt
  refine ⟨multiReduction .maximumf [0] S2048 (tileScores (i 0).val (k0_pay1 (F := Ideal) P) X) 0xFF800000#32 reduces_S512x2048_S2048 (.inl rfl) rfl (ix1 j), ?_, ?_⟩
  · have : k0_pay3 (F := Ideal) i (k0_pay1 (F := Ideal) P) X M
        = maximumf (shapeCast S1x2048 M shapeCasts_S1x2048_S1x2048) (shapeCast S1x2048
          (multiReduction .maximumf [0] S2048 (tileScores (i 0).val (k0_pay1 (F := Ideal) P) X) 0xFF800000#32 reduces_S512x2048_S2048 (.inl rfl) rfl) shapeCasts_S2048_S1x2048) := rfl
    rw [this, cast_self, maximumf_apply, shapeCast_a_1a_apply]
  · have hs : ∀ y : Fin 512, (tileScores (i 0).val (k0_pay1 (F := Ideal) P) X ∘ (reduces_S512x2048_S2048.lift (ix1 j))) y = score K P j (512 * (i 0).val + y.val) :=
      fun y => by
        show tileScores _ _ _ (reduces_S512x2048_S2048.lift (ix1 j) y) = _
        rw [lift_rows reduces_S512x2048_S2048 j y]; exact tileScores_apply K P _ hn X hX y j
    have hm : multiReduction .maximumf [0] S2048 (tileScores (i 0).val (k0_pay1 (F := Ideal) P) X) 0xFF800000#32 reduces_S512x2048_S2048 (.inl rfl) rfl (ix1 j)
        = (Finset.univ : Finset (Fin 512)).sup fun y => score K P j (512 * (i 0).val + y.val) := by
      refine (Ideal.multiReduction_maximumf_single (tileScores (i 0).val (k0_pay1 (F := Ideal) P) X) 0xFF800000#32 reduces_S512x2048_S2048 (.inl rfl) rfl (ix1 j)).trans ?_
      show Finset.fold max (Ideal.ofBits .f32 0xFF800000#32) _ (Finset.univ : Finset (Fin 512)) = _
      rw [ofBits_neg_inf, funext hs]; rfl
    rw [hm]
    constructor
    · obtain ⟨y, _, hy⟩ := Finset.exists_mem_eq_sup (Finset.univ : Finset (Fin 512)) ⟨0, Finset.mem_univ _⟩ fun y => score K P j (512 * (i 0).val + y.val)
      exact ⟨y, hy⟩
    · exact fun y => Finset.le_sup (f := fun y : Fin 512 => score K P j (512 * (i 0).val + y.val)) (Finset.mem_univ y)

/-! ## The running index -/

/-- The least of finitely many words, read signed, is one of them and below all. -/
theorem fold_minsi {ι : Type} (s : Finset ι) (f : ι → BitVec 32) (b : BitVec 32) :
    (s.fold IntOp.minsi b f = b ∨ ∃ i ∈ s, s.fold IntOp.minsi b f = f i) ∧ (s.fold IntOp.minsi b f).toInt ≤ b.toInt
      ∧ ∀ i ∈ s, (s.fold IntOp.minsi b f).toInt ≤ (f i).toInt := by
  classical
  induction s using Finset.induction_on with
  | empty => simp
  | insert a s ha ih =>
    rw [Finset.fold_insert ha]
    obtain ⟨h1, h2, h3⟩ := ih
    set q := s.fold IntOp.minsi b f
    have hq : (IntOp.minsi (f a) q = f a ∧ (f a).toInt ≤ q.toInt) ∨ (IntOp.minsi (f a) q = q ∧ q.toInt ≤ (f a).toInt) := by
      unfold IntOp.minsi
      split <;> rename_i h <;> simp only [BitVec.slt, BitVec.sle, decide_eq_true_eq] at h
      · exact .inl ⟨rfl, by omega⟩
      · exact .inr ⟨rfl, by omega⟩
    rcases hq with ⟨e, hl⟩ | ⟨e, hl⟩ <;> rw [e]
    · refine ⟨.inr ⟨a, Finset.mem_insert_self _ _, rfl⟩, by omega, fun i hi => ?_⟩
      rcases Finset.mem_insert.1 hi with rfl | hi
      · exact le_rfl
      · have := h3 i hi; omega
    · refine ⟨h1.imp id fun ⟨i, hi, h⟩ => ⟨i, Finset.mem_insert_of_mem hi, h⟩, h2, fun i hi => ?_⟩
      rcases Finset.mem_insert.1 hi with rfl | hi
      · exact hl
      · exact h3 i hi

/-- The row that row `r` of the padded bank offers for the index of the maximum `m`. -/
def offer (K : S64x20000.Idx → EReal) (P : S64x2048.Idx → EReal) (j : Fin 2048) (m : EReal) (r : ℕ) : ℕ :=
  open scoped Classical in if score K P j r = m then r else 20000

/-- After a tile the running index is the lesser of itself and the tile's least offer. -/
theorem pay3_min (K : S64x20000.Idx → EReal) (P : S64x2048.Idx → EReal) (i : grid1.Coords) (X : S64x512.Idx → EReal)
    (hX : Holds K (i 0).val X) (M : S1x2048.Idx → EReal) (I : S1x2048.Idx → BitVec 32) (j : Fin 2048) (a : ℕ) (ha : a ≤ 20000)
    (hI : I (ix2 0 j) = BitVec.ofNat 32 a) :
    ∃ w, k1_pay3 (F := Ideal) i (k1_pay2 (F := Ideal) P) X M I (ix2 0 j) = BitVec.ofNat 32 (min a w)
      ∧ (∃ y : Fin 512, w = offer K P j (M (ix2 0 j)) (512 * (i 0).val + y.val))
      ∧ ∀ y : Fin 512, w ≤ offer K P j (M (ix2 0 j)) (512 * (i 0).val + y.val) := by
  have hn : (i 0).val < 40 := (i 0).isLt
  set src : IVec S512x2048 32 := select (cmpf .oeq (tileScores (i 0).val (k0_pay1 (F := Ideal) P) X)
      (broadcastTo S512x2048 (shapeCast S1x2048 M shapeCasts_S1x2048_S1x2048) broadcasts_S1x2048_S512x2048))
      (addi (iota .tc S512x2048 32 [0] iota_S512x2048_d0_w32) (broadcast S512x2048 (Scalar.muli (BitVec.ofNat 32 (i 0).val) 512#32)))
      (broadcast S512x2048 20000#32) with hsrc
  have hp : k1_pay3 (F := Ideal) i (k1_pay2 (F := Ideal) P) X M I
      = minsi (shapeCast S1x2048 I shapeCasts_S1x2048_S1x2048) (shapeCast S1x2048
          (multiReductionI .minsi [0] S2048 src 2147483647#32 reduces_S512x2048_S2048 rfl) shapeCasts_S2048_S1x2048) := rfl
  have hv : ∀ y : Fin 512, src (ix2 y j) = BitVec.ofNat 32 (offer K P j (M (ix2 0 j)) (512 * (i 0).val + y.val)) := fun y => by
    have hb : broadcastTo S512x2048 (shapeCast S1x2048 M shapeCasts_S1x2048_S1x2048) broadcasts_S1x2048_S512x2048 (ix2 y j) = M (ix2 0 j) := by
      rw [cast_self]; exact broadcastTo_1b_ab_apply _ _ y j
    show (if Ideal.cmp .oeq (tileScores (i 0).val (k0_pay1 (F := Ideal) P) X (ix2 y j))
        (broadcastTo S512x2048 (shapeCast S1x2048 M shapeCasts_S1x2048_S1x2048) broadcasts_S1x2048_S512x2048 (ix2 y j)) = 1#1
      then IntOp.addi (iota .tc S512x2048 32 [0] iota_S512x2048_d0_w32 (ix2 y j)) (IntOp.muli (BitVec.ofNat 32 (i 0).val) 512#32) else 20000#32) = _
    rw [hb, tileScores_apply K P _ hn X hX y j, iota_single_apply, show (512#32 : BitVec 32) = BitVec.ofNat 32 512 from rfl,
      WordCmp.muli_ofNat, WordCmp.addi_ofNat]
    unfold offer Ideal.cmp
    have e : ((ix2 y j : S512x2048.Idx) 0).val + (i 0).val * 512 = 512 * (i 0).val + y.val := by
      show y.val + _ = _; omega
    rw [e]
    by_cases h : score K P j (512 * (i 0).val + y.val) = M (ix2 0 j)
    · simp [h]
    · simp [h]
  have hr := fold_minsi (Finset.univ : Finset (Fin 512)) (fun y => src (ix2 y j)) 2147483647#32
  have hm : multiReductionI .minsi [0] S2048 src 2147483647#32 reduces_S512x2048_S2048 rfl (ix1 j)
      = (Finset.univ : Finset (Fin 512)).fold IntOp.minsi 2147483647#32 fun y => src (ix2 y j) := by
    refine (multiReductionI_eq_fold .minsi src _ reduces_S512x2048_S2048 rfl (ix1 j)).trans ?_
    refine (reduces_S512x2048_S2048.fold_filter_drop_single _ _ _ _).trans ?_
    refine congrArg (fun f : Fin 512 → BitVec 32 => Finset.fold IntOp.minsi 2147483647#32 f Finset.univ) (funext fun y => ?_)
    show src (reduces_S512x2048_S2048.lift (ix1 j) y) = _
    rw [lift_rows reduces_S512x2048_S2048 j y]
  rw [← hm] at hr
  obtain ⟨h1, -, h3⟩ := hr
  have hb : ∀ y : Fin 512, offer K P j (M (ix2 0 j)) (512 * (i 0).val + y.val) < 20480 := fun y => by
    have := y.isLt
    unfold offer; split <;> omega
  have ht : ∀ x, x < 20480 → (BitVec.ofNat 32 x).toInt = (x : Int) := fun x hx => WordCmp.toInt_ofNat_of_lt (by omega)
  have h0 := h3 0 (Finset.mem_univ _)
  rw [hv, ht _ (hb 0)] at h0
  have h0' := hb 0
  rcases h1 with h1 | ⟨y, -, hy⟩
  · rw [h1] at h0
    have hc : (2147483647#32 : BitVec 32).toInt = 2147483647 := by decide
    omega
  · rw [hv] at hy
    refine ⟨_, ?_, ⟨y, rfl⟩, fun y' => ?_⟩
    · rw [hp]
      show IntOp.minsi (shapeCast S1x2048 I _ (ix2 0 j)) (shapeCast S1x2048 _ _ (ix2 0 j)) = _
      rw [cast_self, shapeCast_a_1a_apply, hy, hI]
      have hy' := hb y
      generalize offer K P j (M (ix2 0 j)) (512 * (i 0).val + y.val) = w at hy'
      unfold IntOp.minsi
      rw [BitVec.slt, ht a (by omega), ht w hy']
      rcases Nat.lt_or_ge a w with h | h
      · rw [if_pos (decide_eq_true (by omega)), min_eq_left h.le]
      · rw [if_neg (by rw [decide_eq_true_eq]; omega), min_eq_right h]
    · have := h3 y' (Finset.mem_univ _)
      rw [hy, hv, ht _ (hb y), ht _ (hb y')] at this
      omega

/-! ## The number of close matches -/

/-- Whether the second and third kernels have work: some maximum is above the threshold. -/
theorem hot_count (M : S1x2048.Idx → EReal) : hot (word (F := Ideal) (countOf (F := Ideal) M)) ↔ ∃ j : Fin 2048, thr < M (ix2 0 j) := by
  set x : IVec S1x2048 32 := extui 32 (cmpf (F := Ideal) (φ := .f32) .ogt (shapeCast S1x2048 M shapeCasts_S1x2048_S1x2048)
    (broadcast S1x2048 (Scalar.ofBits (F := Ideal) .f32 0x3F733333#32))) natLt_1_32 with hx
  set src : IVec S1x1x2048 32 := shapeCast S1x1x2048 x shapeCasts_S1x2048_S1x1x2048 with hsrc
  have hv : ∀ k, (x k).toNat = if thr < M k then 1 else 0 := fun k => by
    show (BitVec.setWidth 32 (Ideal.cmp .ogt (shapeCast S1x2048 M shapeCasts_S1x2048_S1x2048 k) thr)).toNat = _
    rw [cast_self]
    unfold Ideal.cmp
    by_cases h : thr < M k
    · simp [h]
    · simp [h]
  have hw : word (F := Ideal) (countOf (F := Ideal) M) = multiReductionI .add [1, 2] S1 src 0#32 reduces_S1x1x2048_S1 rfl
      (Shape.reshapeEquiv shapeCasts_S1_S1x1x1 fun a => ⟨![0, 0, 0] a, inpos_S1x1x1_p0_0_0 a⟩) := rfl
  generalize (Shape.reshapeEquiv shapeCasts_S1_S1x1x1 fun a => ⟨![0, 0, 0] a, inpos_S1x1x1_p0_0_0 a⟩) = o at hw
  have hle : ∀ i, (src i).toNat ≤ 1 := fun i => by
    show (x _).toNat ≤ 1
    rw [hv]; split <;> omega
  have hcard : Fintype.card S1x1x2048.Idx = 2048 := (Fintype.card_congr S1x1x2048.rowMajor).trans (Fintype.card_fin _)
  have hb : ∑ i ∈ Finset.univ.filter (fun i => reduces_S1x1x2048_S1.drop i = o), (src i).toNat ≤ 2048 := by
    refine (Finset.sum_le_card_nsmul _ _ 1 fun i _ => hle i).trans ?_
    rw [smul_eq_mul, mul_one, ← hcard]
    exact Finset.card_le_univ _
  have hs := WordSum.toNat_multiReductionI_add src reduces_S1x1x2048_S1 rfl o (by omega)
  rw [← hw] at hs
  rw [← hs] at hb
  have hhot : hot (word (F := Ideal) (countOf (F := Ideal) M)) ↔ word (F := Ideal) (countOf (F := Ideal) M) ≠ 0#32 := by
    generalize word (F := Ideal) (countOf (F := Ideal) M) = n at hb
    have h1 : hot n ↔ 0 < n.toInt := by
      have hb1 : ∀ b : BitVec 1, (Scalar.cmpi .ne (Scalar.extui b : BitVec 32) 0#32 = 1#1) ↔ b = 1#1 := by decide
      refine (hb1 _).trans ?_
      show BitVec.ofBool (BitVec.slt 0#32 n) = 1#1 ↔ _
      rw [BitVec.slt, WordCmp.ofBool_decide_eq_one_iff]
      rfl
    rw [h1, BitVec.toInt_eq_toNat_of_lt (by omega)]
    constructor
    · rintro h rfl; exact absurd h (by decide)
    · intro h
      have : n.toNat ≠ 0 := fun h' => h (BitVec.eq_of_toNat_eq h')
      omega
  rw [hhot, Ne, ← BitVec.toNat_inj, hs]
  have hsub : ∀ i, reduces_S1x1x2048_S1.drop i = o := fun i => by
    refine (ValueIdx.eq_ix1 _).trans (Eq.trans ?_ (ValueIdx.eq_ix1 o).symm)
    exact congrArg ix1 (Subsingleton.elim (α := Fin 1) _ _)
  constructor
  · intro h
    by_contra hn
    push Not at hn
    refine h (Finset.sum_eq_zero fun i _ => ?_)
    show (x _).toNat = 0
    rw [hv, if_neg (not_lt.2 ?_)]
    generalize Shape.reshapeEquiv shapeCasts_S1x2048_S1x1x2048 i = k
    rw [ValueIdx.eq_ix2 k, show k 0 = (0 : Fin 1) from Subsingleton.elim (α := Fin 1) _ _]
    exact hn _
  · rintro ⟨j, hj⟩ h
    have := (Finset.sum_eq_zero_iff.1 h) ((Shape.reshapeEquiv shapeCasts_S1x2048_S1x1x2048).symm (ix2 0 j))
      (Finset.mem_filter.2 ⟨Finset.mem_univ _, hsub _⟩)
    change (x (Shape.reshapeEquiv shapeCasts_S1x2048_S1x1x2048 ((Shape.reshapeEquiv shapeCasts_S1x2048_S1x1x2048).symm (ix2 0 j)))).toNat = 0 at this
    rw [Equiv.apply_symm_apply, hv, if_pos hj] at this
    exact one_ne_zero this

end Cert.KernelIdeal.Bank

end
-- ==== Proof.Found.lean ====
/-
  What the regions leave on extended reals: each window's block as entries of its array, the running maximum and
  index after the last tile, and the arrays the three regions leave.
-/
module

public import proofs.«01_k».proof.Proof.Search
public import proofs.«01_k».proof.Proof.Run
public import Idealize.ShloMosaic.Lib.Pipeline.ValueKit.Geometry

@[expose] public section

noncomputable section

namespace Cert.KernelIdeal.Bank

open Cert.Bank Cert.KernelIdeal Cert.KernelIdeal.Gen
open Idealize.ShloMosaic Idealize.ShloMosaic.TcCoe Idealize.ShloMosaic.Tactic
open Idealize.ShloMosaic.ValueIdx (ix1 ix2)
open Idealize.ShloMosaic.Pipeline (Dat Cfg Window)

variable (V : (c : Dev nD) → (b : Ref sig .tc) → Buf (Elt Ideal) ((c : Thread nD τ).loc b))

/-! ## What the windows hold -/

theorem index0_0 : ∀ t : Fin cfg0.N, win0_0.index t = ![0, t.val] := by decide +kernel
theorem index1_0 : ∀ t : Fin cfg1.N, win1_0.index t = ![0, t.val] := by decide +kernel
theorem index2_3 : ∀ t : Fin cfg2.N, win2_3.index t = ![0, t.val] := by decide +kernel
theorem index2_4 : ∀ t : Fin cfg2.N, win2_4.index t = ![0, t.val] := by decide +kernel
theorem index2_7 : ∀ t : Fin cfg2.N, win2_7.index t = ![0, t.val] := by decide +kernel

/-- A tile of keys holds the columns of the keys from the tile's first column on. -/
theorem holds0_0 (c : Dev nD) (t : Fin cfg0.N) (d : S64x512.Idx → EReal) :
    Holds (V c main_arg0) (grid0.coords t 0).val (win0_0.fill (grid0.coords t) d (keysBlk0 V c t)) := fun k y h => by
  have hm := (moved0_0 (grid0.coords t) (ix2 k y)).2 h
  rw [Window.moved_iff] at hm
  refine Eq.trans ?_ ((win0_0.fill_xinj (grid0.coords t) d (keysBlk0 V c t) fun a => ⟨(ix2 k y : S64x512.Idx) a, hm a⟩).trans ?_)
  · rfl
  · refine congrArg (V c main_arg0) (funext fun a => Fin.ext ?_)
    have hc := coords0 t
    fin_cases a
    · show ((win0_0.blk t).view.emb _ 0).val = k.val
      blk_simp [index0_0]
      simp
    · show ((win0_0.blk t).view.emb _ 1).val = 512 * (grid0.coords t 0).val + y.val
      blk_simp [index0_0]
      rw [hc]; simp; omega

/-- The same in the second region. -/
theorem holds1_0 (c : Dev nD) (t : Fin cfg1.N) (d : S64x512.Idx → EReal) :
    Holds (V c main_arg0) (grid1.coords t 0).val (win1_0.fill (grid1.coords t) d (keysBlk1 V c t)) := fun k y h => by
  have hm := (moved1_0 (grid1.coords t) (ix2 k y)).2 h
  rw [Window.moved_iff] at hm
  refine Eq.trans ?_ ((win1_0.fill_xinj (grid1.coords t) d (keysBlk1 V c t) fun a => ⟨(ix2 k y : S64x512.Idx) a, hm a⟩).trans ?_)
  · rfl
  · refine congrArg (V c main_arg0) (funext fun a => Fin.ext ?_)
    have hc := coords1 t
    fin_cases a
    · show ((win1_0.blk t).view.emb _ 0).val = k.val
      blk_simp [index1_0]
      simp
    · show ((win1_0.blk t).view.emb _ 1).val = 512 * (grid1.coords t 0).val + y.val
      blk_simp [index1_0]
      rw [hc]; simp; omega

/-- The same in the third region. -/
theorem holds2_3 (c : Dev nD) (t : Fin cfg2.N) (d : S64x512.Idx → EReal) :
    Holds (V c main_arg0) (grid2.coords t 0).val (win2_3.fill (grid2.coords t) d (keysBlk2 V c t)) := fun k y h => by
  have hm := (moved2_3 (grid2.coords t) (ix2 k y)).2 h
  rw [Window.moved_iff] at hm
  refine Eq.trans ?_ ((win2_3.fill_xinj (grid2.coords t) d (keysBlk2 V c t) fun a => ⟨(ix2 k y : S64x512.Idx) a, hm a⟩).trans ?_)
  · rfl
  · refine congrArg (V c main_arg0) (funext fun a => Fin.ext ?_)
    have hc := coords2 t
    fin_cases a
    · show ((win2_3.blk t).view.emb _ 0).val = k.val
      blk_simp [index2_3]
      simp
    · show ((win2_3.blk t).view.emb _ 1).val = 512 * (grid2.coords t 0).val + y.val
      blk_simp [index2_3]
      rw [hc]; simp; omega

/-- A tile of values holds the columns of the values from the tile's first column on. -/
theorem holds2_4 (c : Dev nD) (t : Fin cfg2.N) (d : S512x512.Idx → EReal) :
    Holds (V c main_arg1) (grid2.coords t 0).val (win2_4.fill (grid2.coords t) d (valsBlk2 V c t)) := fun k y h => by
  have hm := (moved2_4 (grid2.coords t) (ix2 k y)).2 h
  rw [Window.moved_iff] at hm
  refine Eq.trans ?_ ((win2_4.fill_xinj (grid2.coords t) d (valsBlk2 V c t) fun a => ⟨(ix2 k y : S512x512.Idx) a, hm a⟩).trans ?_)
  · rfl
  · refine congrArg (V c main_arg1) (funext fun a => Fin.ext ?_)
    have hc := coords2 t
    fin_cases a
    · show ((win2_4.blk t).view.emb _ 0).val = k.val
      blk_simp [index2_4]
      simp
    · show ((win2_4.blk t).view.emb _ 1).val = 512 * (grid2.coords t 0).val + y.val
      blk_simp [index2_4]
      rw [hc]; simp; omega

theorem keys0_holds (c : Dev nD) (t : Fin cfg0.N) : Holds (V c main_arg0) (grid0.coords t 0).val (keys0 V c t) := holds0_0 V c t _
theorem keys1_holds (c : Dev nD) (t : Fin cfg1.N) : Holds (V c main_arg0) (grid1.coords t 0).val (keys1 V c t) := holds1_0 V c t _

theorem score_lt (K : S64x20000.Idx → EReal) (P : S64x2048.Idx → EReal) (j : Fin 2048) {r : ℕ} (h : r < 20000) :
    score K P j r = scores K P j ⟨r, h⟩ := dif_pos h
theorem score_ge (K : S64x20000.Idx → EReal) (P : S64x2048.Idx → EReal) (j : Fin 2048) {r : ℕ} (h : ¬ r < 20000) :
    score K P j r = 0 := dif_neg h

/-- A window that is its whole array reads the whole array. -/
theorem pk0_whole (c : Dev nD) : pk0 V c z0 = V c main_arg2 := by
  funext y
  refine congrArg (V c main_arg2) (funext fun a => Fin.ext ?_)
  exact Window.rect_emb_val_of_index_zero win0_1 z0 a (by fin_cases a <;> rfl) y
@[inherit_doc pk0_whole]
theorem pk1_whole (c : Dev nD) : pk1 V c = V c main_arg2 := by
  funext y
  refine congrArg (V c main_arg2) (funext fun a => Fin.ext ?_)
  exact Window.rect_emb_val_of_index_zero win1_1 z1 a (by fin_cases a <;> rfl) y
@[inherit_doc pk0_whole]
theorem mx1_whole (c : Dev nD) : mx1 V c = V c main_v0_0 := by
  funext y
  refine congrArg (V c main_v0_0) (funext fun a => Fin.ext ?_)
  exact Window.rect_emb_val_of_index_zero win1_2 z1 a (by fin_cases a <;> rfl) y
@[inherit_doc pk0_whole]
theorem nc1_whole (c : Dev nD) : nc1 V c = V c main_v0_1 := by
  funext y
  refine congrArg (V c main_v0_1) (funext fun a => Fin.ext ?_)
  exact Window.rect_emb_val_of_index_zero win1_3 z1 a (by fin_cases a; rfl) y
@[inherit_doc pk0_whole]
theorem id2_whole (c : Dev nD) : id2 V c = V c main_v1 := by
  funext y
  refine congrArg (V c main_v1) (funext fun a => Fin.ext ?_)
  exact Window.rect_emb_val_of_index_zero win2_0 z2 a (by fin_cases a <;> rfl) y
@[inherit_doc pk0_whole]
theorem mx2_whole (c : Dev nD) : mx2 V c = V c main_v0_0 := by
  funext y
  refine congrArg (V c main_v0_0) (funext fun a => Fin.ext ?_)
  exact Window.rect_emb_val_of_index_zero win2_1 z2 a (by fin_cases a <;> rfl) y
@[inherit_doc pk0_whole]
theorem nc2_whole (c : Dev nD) : nc2 V c = V c main_v0_1 := by
  funext y
  refine congrArg (V c main_v0_1) (funext fun a => Fin.ext ?_)
  exact Window.rect_emb_val_of_index_zero win2_2 z2 a (by fin_cases a; rfl) y
@[inherit_doc pk0_whole]
theorem pk2_whole (c : Dev nD) : pk2 V c = V c main_arg2 := by
  funext y
  refine congrArg (V c main_arg2) (funext fun a => Fin.ext ?_)
  exact Window.rect_emb_val_of_index_zero win2_5 z2 a (by fin_cases a <;> rfl) y
@[inherit_doc pk0_whole]
theorem pv2_whole (c : Dev nD) : pv2 V c = V c main_arg3 := by
  funext y
  refine congrArg (V c main_arg3) (funext fun a => Fin.ext ?_)
  exact Window.rect_emb_val_of_index_zero win2_6 z2 a (by fin_cases a <;> rfl) y

/-! ## The maxima -/

/-- After point `n` the running maximum is the greatest score among the rows met so far. -/
theorem mx0_inv (c : Dev nD) (j : Fin 2048) : ∀ (n : ℕ) (h : n < cfg0.N),
    (∀ r < 512 * (n + 1), score (V c main_arg0) (V c main_arg2) j r ≤ mx0 V c n h (ix2 0 j))
      ∧ ∃ r < 512 * (n + 1), mx0 V c n h (ix2 0 j) = score (V c main_arg0) (V c main_arg2) j r := by
  intro n
  induction n with
  | zero =>
    intro h
    obtain ⟨v, hv, ⟨y, hy⟩, hle⟩ := pay3_max (V c main_arg0) (pk0 V c z0) (grid0.coords ⟨0, h⟩) (keys0 V c ⟨0, h⟩)
      (keys0_holds V c ⟨0, h⟩) (k0_pay2 (F := Ideal)) j
    have hm : mx0 V c 0 h (ix2 0 j) = v := by
      refine hv.trans ?_
      rw [show k0_pay2 (F := Ideal) (ix2 0 j) = ⊥ from ofBits_neg_inf]
      exact bot_sup_eq v
    rw [hm]
    rw [pk0_whole, coords0] at hy hle
    refine ⟨fun r hr => ?_, _, ?_, hy⟩
    · have := hle ⟨r, by omega⟩
      simpa using this
    · have := y.isLt
      simp only []; omega
  | succ n ih =>
    intro h
    obtain ⟨ih1, r₀, hr₀, ih2⟩ := ih (Nat.lt_of_succ_lt h)
    obtain ⟨v, hv, ⟨y, hy⟩, hle⟩ := pay3_max (V c main_arg0) (pk0 V c z0) (grid0.coords ⟨n + 1, h⟩) (keys0 V c ⟨n + 1, h⟩)
      (keys0_holds V c ⟨n + 1, h⟩) (mx0 V c n (Nat.lt_of_succ_lt h)) j
    have hm : mx0 V c (n + 1) h (ix2 0 j) = max (mx0 V c n (Nat.lt_of_succ_lt h) (ix2 0 j)) v := hv
    rw [hm]
    rw [pk0_whole, coords0] at hy hle
    have hy' := y.isLt
    simp only [] at hy hle
    refine ⟨fun r hr => ?_, ?_⟩
    · rcases Nat.lt_or_ge r (512 * (n + 1)) with h1 | h1
      · exact (ih1 r h1).trans (le_max_left _ _)
      · have := hle ⟨r - 512 * (n + 1), by omega⟩
        rw [show 512 * (n + 1) + (r - 512 * (n + 1)) = r by omega] at this
        exact this.trans (le_max_right _ _)
    · rcases le_total v (mx0 V c n (Nat.lt_of_succ_lt h) (ix2 0 j)) with h1 | h1
      · rw [max_eq_left h1]; exact ⟨r₀, by omega, ih2⟩
      · rw [max_eq_right h1]; exact ⟨_, by omega, hy⟩

/-- The maxima the first region leaves. -/
abbrev best (c : Dev nD) : S1x2048.Idx → EReal := mx0 V c 39 (by decide)

/-- They are above the threshold where the bank's best score is. -/
theorem best_close (c : Dev nD) (j : Fin 2048) :
    thr < best V c (ix2 0 j) ↔ thr < scores (V c main_arg0) (V c main_arg2) j (Cert.Bank.first (scores (V c main_arg0) (V c main_arg2) j)) := by
  obtain ⟨h1, r, hr, h2⟩ := mx0_inv V c j 39 (by decide)
  constructor
  · intro h
    rw [best, h2] at h
    by_cases hr' : r < 20000
    · refine h.trans_le ?_
      rw [score_lt _ _ _ hr']
      exact le_first _ _
    · rw [score_ge _ _ _ (by omega)] at h
      exact absurd h (not_lt.2 thr_pos.le)
  · intro h
    refine h.trans_le ?_
    rw [← score_lt (V c main_arg0) (V c main_arg2) j (Cert.Bank.first (scores (V c main_arg0) (V c main_arg2) j)).isLt]
    exact h1 _ (by have := (Cert.Bank.first (scores (V c main_arg0) (V c main_arg2) j)).isLt; omega)

/-- Where they are, they are the bank's best score. -/
theorem best_eq (c : Dev nD) (j : Fin 2048) (h : thr < best V c (ix2 0 j)) :
    best V c (ix2 0 j) = scores (V c main_arg0) (V c main_arg2) j (Cert.Bank.first (scores (V c main_arg0) (V c main_arg2) j)) := by
  obtain ⟨h1, r, hr, h2⟩ := mx0_inv V c j 39 (by decide)
  refine le_antisymm ?_ ?_
  · rw [best, h2] at h ⊢
    by_cases hr' : r < 20000
    · rw [score_lt _ _ _ hr']
      exact le_first _ _
    · rw [score_ge _ _ _ (by omega)] at h
      exact absurd h (not_lt.2 thr_pos.le)
  · rw [← score_lt (V c main_arg0) (V c main_arg2) j (Cert.Bank.first (scores (V c main_arg0) (V c main_arg2) j)).isLt]
    exact h1 _ (by have := (Cert.Bank.first (scores (V c main_arg0) (V c main_arg2) j)).isLt; omega)

/-! ## The indices -/

/-- After point `n` the running index is the least row met so far whose score is the maximum, or 20000. -/
theorem idx_inv (c : Dev nD) (hh : hot (word (nc1 V c))) (j : Fin 2048) : ∀ (n : ℕ) (h : n < cfg1.N),
    ∃ a ≤ 20000, idxAt V c n h (ix2 0 j) = BitVec.ofNat 32 a
      ∧ (∀ r < 512 * (n + 1), score (V c main_arg0) (V c main_arg2) j r = mx1 V c (ix2 0 j) → a ≤ r)
      ∧ (a = 20000 ∨ score (V c main_arg0) (V c main_arg2) j a = mx1 V c (ix2 0 j)) := by
  have step : ∀ (n : ℕ) (h : n < cfg1.N) (I : S1x2048.Idx → BitVec 32) (a : ℕ), a ≤ 20000 → I (ix2 0 j) = BitVec.ofNat 32 a →
      (∀ r < 512 * n, score (V c main_arg0) (V c main_arg2) j r = mx1 V c (ix2 0 j) → a ≤ r) →
      (a = 20000 ∨ score (V c main_arg0) (V c main_arg2) j a = mx1 V c (ix2 0 j)) →
      ∃ a ≤ 20000, k1_pay3 (F := Ideal) (grid1.coords ⟨n, h⟩) (k1_pay2 (F := Ideal) (pk1 V c)) (keys1 V c ⟨n, h⟩) (mx1 V c) I (ix2 0 j) = BitVec.ofNat 32 a
        ∧ (∀ r < 512 * (n + 1), score (V c main_arg0) (V c main_arg2) j r = mx1 V c (ix2 0 j) → a ≤ r)
        ∧ (a = 20000 ∨ score (V c main_arg0) (V c main_arg2) j a = mx1 V c (ix2 0 j)) := by
    intro n h I a ha hI h1 h2
    obtain ⟨w, hw, ⟨y, hy⟩, hle⟩ := pay3_min (V c main_arg0) (pk1 V c) (grid1.coords ⟨n, h⟩) (keys1 V c ⟨n, h⟩)
      (keys1_holds V c ⟨n, h⟩) (mx1 V c) I j a ha hI
    rw [pk1_whole, coords1] at hy hle
    simp only [] at hy hle
    rw [pk1_whole] at hw ⊢
    refine ⟨min a w, (min_le_left a w).trans ha, hw, fun r hr he => ?_, ?_⟩
    · rcases Nat.lt_or_ge r (512 * n) with h3 | h3
      · exact (min_le_left a w).trans (h1 r h3 he)
      · have := hle ⟨r - 512 * n, by omega⟩
        simp only [] at this
        rw [show 512 * n + (r - 512 * n) = r by omega, offer, if_pos he] at this
        exact (min_le_right a w).trans this
    · rcases Nat.lt_or_ge w a with h3 | h3
      · rw [min_eq_right h3.le]
        unfold offer at hy
        split at hy
        · rename_i he; rw [hy]; exact Or.inr he
        · exact Or.inl hy
      · rw [min_eq_left h3]; exact h2
  intro n
  induction n with
  | zero =>
    intro h
    have := step 0 h (k1_pay1) 20000 le_rfl rfl (fun r hr => absurd hr (by omega)) (Or.inl rfl)
    have e : idxAt V c 0 h = k1_pay3 (F := Ideal) (grid1.coords ⟨0, h⟩) (k1_pay2 (F := Ideal) (pk1 V c)) (keys1 V c ⟨0, h⟩) (mx1 V c) (k1_pay1) := by
      show idx1 _ _ _ _ _ _ = _
      unfold idx1 ini1
      rw [if_pos hh, ite_self]
    rw [e]; exact this
  | succ n ih =>
    intro h
    obtain ⟨a, ha, hI, h1, h2⟩ := ih (Nat.lt_of_succ_lt h)
    have := step (n + 1) h (idxAt V c n (Nat.lt_of_succ_lt h)) a ha hI h1 h2
    have e : idxAt V c (n + 1) h = k1_pay3 (F := Ideal) (grid1.coords ⟨n + 1, h⟩) (k1_pay2 (F := Ideal) (pk1 V c)) (keys1 V c ⟨n + 1, h⟩) (mx1 V c)
        (idxAt V c n (Nat.lt_of_succ_lt h)) := by
      show idx1 _ _ _ _ _ _ = _
      unfold idx1 ini1
      rw [if_pos hh, if_neg]
      rw [first_iff _ (grid1.coords ⟨n + 1, h⟩ 0).isLt, coords1]
      exact Nat.succ_ne_zero n
    rw [e]; exact this

/-- The indices the second region leaves. -/
abbrev place (c : Dev nD) : S1x2048.Idx → BitVec 32 := idxAt V c 39 (by decide)

/-- The index of a close match is the first row at the bank's best score. -/
theorem place_eq (c : Dev nD) (hh : hot (word (nc1 V c))) (j : Fin 2048)
    (h : mx1 V c (ix2 0 j) = scores (V c main_arg0) (V c main_arg2) j (Cert.Bank.first (scores (V c main_arg0) (V c main_arg2) j))) :
    place V c (ix2 0 j) = BitVec.ofNat 32 (Cert.Bank.first (scores (V c main_arg0) (V c main_arg2) j)).val := by
  obtain ⟨a, ha, hI, h1, h2⟩ := idx_inv V c hh j 39 (by decide)
  rw [place, hI]
  set b := Cert.Bank.first (scores (V c main_arg0) (V c main_arg2) j) with hb
  have hle : a ≤ b.val := h1 b.val (by have := b.isLt; omega) (by rw [score_lt _ _ _ b.isLt, h])
  have hlt := b.isLt
  have hs : score (V c main_arg0) (V c main_arg2) j a = mx1 V c (ix2 0 j) := h2.resolve_left (by omega)
  rw [score_lt _ _ _ (by omega : a < 20000), h] at hs
  congr 1
  by_contra hne
  have := lt_first (scores (V c main_arg0) (V c main_arg2) j) ⟨a, by omega⟩ (by rw [← hb]; exact Fin.lt_def.2 (by simp only []; omega))
  rw [hs] at this
  exact lt_irrefl _ this

/-! ## The arrays the first two regions leave -/

/-- A result written back once holds what the body left at that point. -/
theorem arr0_2_at (c : Dev nD) (t : Fin cfg0.N) (h : (cfg0.win 2).WholeAt t) : (dat0 V c).arrAt 2 cfg0.N = mx0 V c t.val t.isLt :=
  (dat0 V c).arrAt_eq_of_after_last 2 t h _ fun _ => rfl
set_option maxRecDepth 100000 in
@[inherit_doc arr0_2_at]
theorem arr0_3_at (c : Dev nD) (t : Fin cfg0.N) (h : (cfg0.win 3).WholeAt t) :
    (dat0 V c).arrAt 3 cfg0.N = countOf (F := Ideal) (mx0 V c t.val t.isLt) := by
  refine (dat0 V c).arrAt_eq_of_after_last 3 t h _ fun j => ?_
  have e : (dat0 V c).after 3 t = countOf (F := Ideal) (mx0 V c t.val t.isLt) := rfl
  rw [e]
  unfold countOf
  exact cast_eq _ _
@[inherit_doc arr0_2_at]
theorem arr1_4_at (c : Dev nD) (t : Fin cfg1.N) (h : (cfg1.win 4).WholeAt t) : (dat1 V c).arrAt 4 cfg1.N = idxAt V c t.val t.isLt :=
  (dat1 V c).arrAt_eq_of_after_last 4 t h _ fun _ => rfl

theorem arr0_2 (c : Dev nD) : (dat0 V c).arrAt 2 cfg0.N = best V c := arr0_2_at V c ⟨39, by decide⟩ (by decide +kernel)
theorem arr0_3 (c : Dev nD) : (dat0 V c).arrAt 3 cfg0.N = countOf (F := Ideal) (best V c) :=
  arr0_3_at V c ⟨39, by decide⟩ (by decide +kernel)
theorem arr1_4 (c : Dev nD) : (dat1 V c).arrAt 4 cfg1.N = place V c := arr1_4_at V c ⟨39, by decide⟩ (by decide +kernel)

end Cert.KernelIdeal.Bank
-- ==== Proof.Update.lean ====
/-
  The third kernel on extended reals: the one-hot matrix of the close matches, their counts and sums, and the tile
  of the updated bank.
-/
module

public import proofs.«01_k».proof.Proof.Found

@[expose] public section

noncomputable section

namespace Cert.KernelIdeal.Bank

open Cert.Bank Cert.KernelIdeal Cert.KernelIdeal.Gen
open Idealize.ShloMosaic Idealize.ShloMosaic.ValueIdx
open scoped Classical

/-- The maxima and indices the third kernel reads are the bank's: a maximum is above the threshold where the best score
    is, and its index is then the first row at the best score. -/
def Finds (K : S64x20000.Idx → EReal) (P : S64x2048.Idx → EReal) (I : S1x2048.Idx → BitVec 32) (M : S1x2048.Idx → EReal) : Prop :=
  ∀ j : Fin 2048, (thr < M (ix2 0 j) ↔ thr < scores K P j (Cert.Bank.first (scores K P j)))
    ∧ (thr < M (ix2 0 j) → I (ix2 0 j) = BitVec.ofNat 32 (Cert.Bank.first (scores K P j)).val)

variable {K : S64x20000.Idx → EReal} {P : S64x2048.Idx → EReal} {I : S1x2048.Idx → BitVec 32} {M : S1x2048.Idx → EReal}

/-- The one-hot matrix marks the close matches. -/
theorem pay5_apply (hF : Finds K P I M) (i : grid2.Coords) (y : Fin 512) (h : 512 * (i 0).val + y.val < 20000) (j : Fin 2048) :
    k2_pay5 (F := Ideal) (base2 i) I M (ix2 y j) = if Hit K P ⟨512 * (i 0).val + y.val, h⟩ j then 1 else 0 := by
  show (if IntOp.andi (IntOp.cmpi .eq (broadcastTo S512x2048 (shapeCast S1x2048 I shapeCasts_S1x2048_S1x2048) broadcasts_S1x2048_S512x2048 (ix2 y j))
      (IntOp.addi (iota .tc S512x2048 32 [0] iota_S512x2048_d0_w32 (ix2 y j)) (IntOp.muli (BitVec.ofNat 32 (i 0).val) 512#32)))
    (broadcastTo S512x2048 (cmpf (F := Ideal) (φ := .f32) .ogt (shapeCast S1x2048 M shapeCasts_S1x2048_S1x2048) (broadcast S1x2048 (Scalar.ofBits (F := Ideal) .f32 0x3F733333#32)))
      broadcasts_S1x2048_S512x2048 (ix2 y j)) = 1#1 then Ideal.ofBits .f32 0x3F800000#32 else Ideal.ofBits .f32 0x00000000#32) = _
  rw [cast_self, cast_self, broadcastTo_1b_ab_apply, broadcastTo_1b_ab_apply, iota_single_apply,
    show (512#32 : BitVec 32) = BitVec.ofNat 32 512 from rfl, WordCmp.muli_ofNat, WordCmp.addi_ofNat, Ideal.ofBits_one_f32, Ideal.ofBits_zero_f32]
  have e : ((ix2 y j : S512x2048.Idx) 0).val + (i 0).val * 512 = 512 * (i 0).val + y.val := by
    show y.val + _ = _; omega
  rw [e]
  have hc : cmpf (F := Ideal) (φ := .f32) .ogt M (broadcast S1x2048 (Scalar.ofBits (F := Ideal) .f32 0x3F733333#32)) (ix2 0 j)
      = BitVec.ofBool (decide (thr < M (ix2 0 j))) := rfl
  rw [hc]
  obtain ⟨h1, h2⟩ := hF j
  by_cases ht : thr < M (ix2 0 j)
  · have hlt := (Cert.Bank.first (scores K P j)).isLt
    rw [h2 ht, WordCmp.cmpi_eq_ofNat (by omega) (by omega), decide_eq_true ht]
    refine if_congr ?_ rfl rfl
    unfold Hit
    rw [WordCmp.andi_ofBool, Bool.and_true, WordCmp.ofBool_decide_eq_one_iff, Fin.ext_iff]
    exact (and_iff_left (h1.1 ht)).symm
  · rw [decide_eq_false ht, if_neg, if_neg]
    · rintro ⟨-, h3⟩; exact ht (h1.2 h3)
    · generalize IntOp.cmpi .eq _ _ = b
      revert b; decide

/-- Their counts. -/
theorem pay6_apply (hF : Finds K P I M) (i : grid2.Coords) (y : Fin 512) (h : 512 * (i 0).val + y.val < 20000) :
    k2_pay6 (F := Ideal) (base2 i) I M (ix2 0 y) = count K P ⟨512 * (i 0).val + y.val, h⟩ := by
  refine (Ideal.matmul_transposedRhs_apply (M := 1) (K := 2048) (N := 512) (φ₁ := .bf16) (φ₂ := .bf16) none
    (broadcast S1x2048 (Scalar.ofBits (F := Ideal) .bf16 0x3F80#16)) (k2_pay5 (F := Ideal) (base2 i) I M) (constant S1x512 .f32 0x00000000#32) 0 y).trans ?_
  have h0 : constant (F := Ideal) S1x512 .f32 0x00000000#32 (ix2 0 y) = 0 := Ideal.ofBits_zero_f32
  rw [h0, zero_add]
  refine Finset.sum_congr rfl fun j _ => ?_
  rw [pay5_apply hF i y h j]
  have h1 : broadcast S1x2048 (Scalar.ofBits (F := Ideal) .bf16 0x3F80#16) (ix2 0 j) = 1 := Ideal.ofBits_one_bf16
  rw [h1, one_mul]

/-- The sums of the directions of the matching columns, for a matrix of any number of rows. -/
theorem sum_apply {n : ℕ} (hF : Finds K P I M) (i : grid2.Coords) (y : Fin 512) (h : 512 * (i 0).val + y.val < 20000)
    (Q : (⟨2, ![n, 2048]⟩ : Shape).Idx → EReal) (S : FVec Ideal ⟨2, ![n, 2048]⟩ .bf16) (hS : ∀ r j, S (ix2 r j) = dir (col Q j) r) (r : Fin n) :
    FloatOps.matmul (F := Ideal) (DotDims.transposedRhs n 2048 512) none S (k2_pay5 (F := Ideal) (base2 i) I M) (constant ⟨2, ![n, 512]⟩ .f32 0x00000000#32) (ix2 r y)
      = total K P Q r ⟨512 * (i 0).val + y.val, h⟩ := by
  refine (Ideal.matmul_transposedRhs_apply none S (k2_pay5 (F := Ideal) (base2 i) I M) (constant ⟨2, ![n, 512]⟩ .f32 0x00000000#32) r y).trans ?_
  have h0 : constant (F := Ideal) (⟨2, ![n, 512]⟩ : Shape) .f32 0x00000000#32 (ix2 r y) = 0 := Ideal.ofBits_zero_f32
  rw [h0, zero_add]
  refine Finset.sum_congr rfl fun j _ => ?_
  rw [pay5_apply hF i y h j, hS, mul_ite, mul_one, mul_zero]

/-- The scratches hold the directions of the frame's columns. -/
theorem k2_pay1_apply (Q : S64x2048.Idx → EReal) (r : Fin 64) (j : Fin 2048) : k2_pay1 (F := Ideal) Q (ix2 r j) = dir (col Q j) r := by
  unfold k2_pay1
  rw [cast_self]
  exact dir_kernel Q _ _ _ _ _ r j
@[inherit_doc k2_pay1_apply]
theorem k2_pay2_apply (Q : S512x2048.Idx → EReal) (r : Fin 512) (j : Fin 2048) : k2_pay2 (F := Ideal) Q (ix2 r j) = dir (col Q j) r := by
  unfold k2_pay2
  rw [cast_self]
  exact dir_kernel Q _ _ _ _ _ r j

/-- The test for a match. -/
theorem pay10_apply (hF : Finds K P I M) (i : grid2.Coords) (y : Fin 512) (h : 512 * (i 0).val + y.val < 20000) :
    k2_pay10 (F := Ideal) (base2 i) I M (ix2 0 y) = BitVec.ofBool (decide (0 < count K P ⟨512 * (i 0).val + y.val, h⟩)) := by
  show BitVec.ofBool (decide (Ideal.ofBits .f32 0x00000000#32 < k2_pay6 (F := Ideal) (base2 i) I M (ix2 0 y))) = _
  rw [pay6_apply hF i y h, Ideal.ofBits_zero_f32]

/-- The divisor of the mean. -/
theorem pay9_apply (hF : Finds K P I M) (i : grid2.Coords) (y : Fin 512) (h : 512 * (i 0).val + y.val < 20000) :
    k2_pay9 (F := Ideal) (base2 i) I M (ix2 0 y) = max (count K P ⟨512 * (i 0).val + y.val, h⟩) 1 := by
  show max (k2_pay6 (F := Ideal) (base2 i) I M (ix2 0 y)) (Ideal.ofBits .f32 0x3F800000#32) = _
  rw [pay6_apply hF i y h, Ideal.ofBits_one_f32]

/-- The updated key rows of a tile. -/
theorem outK_apply (hF : Finds K P I M) (i : grid2.Coords) (y : Fin 512) (h : 512 * (i 0).val + y.val < 20000)
    (X : S64x512.Idx → EReal) (r : Fin 64) :
    outK (F := Ideal) i I M X (k2_pay1 (F := Ideal) P) (ix2 r y)
      = Cert.Bank.moved (col X y) (count K P ⟨512 * (i 0).val + y.val, h⟩) (total K P P r ⟨512 * (i 0).val + y.val, h⟩) r := by
  show (if broadcastTo S64x512 (shapeCast S1x512 (k2_pay10 (F := Ideal) (base2 i) I M) shapeCasts_S1x512_S1x512) broadcasts_S1x512_S64x512 (ix2 r y) = 1#1
    then broadcastTo S64x512 (k2_pay11 (F := Ideal) X) broadcasts_S1x512_S64x512 (ix2 r y)
      * (keep * divf X (broadcastTo S64x512 (maximumf (k2_pay11 (F := Ideal) X) (broadcast S1x512 (Scalar.ofBits .f32 0x2B8CBCCC#32))) broadcasts_S1x512_S64x512) (ix2 r y)
        + rate * Ideal.div (k2_pay7 (F := Ideal) (base2 i) I M (k2_pay1 (F := Ideal) P) (ix2 r y))
          (broadcastTo S64x512 (k2_pay9 (F := Ideal) (base2 i) I M) broadcasts_S1x512_S64x512 (ix2 r y)))
    else X (ix2 r y)) = _
  have hd : divf X (broadcastTo S64x512 (maximumf (k2_pay11 (F := Ideal) X) (broadcast S1x512 (Scalar.ofBits .f32 0x2B8CBCCC#32))) broadcasts_S1x512_S64x512) (ix2 r y)
      = dir (col X y) r := dir_kernel X _ _ _ _ _ r y
  have hl : k2_pay11 (F := Ideal) X (ix2 0 y) = len (col X y) := len_kernel X _ _ _ _ 0 y
  have hs : k2_pay7 (F := Ideal) (base2 i) I M (k2_pay1 (F := Ideal) P) (ix2 r y) = total K P P r ⟨512 * (i 0).val + y.val, h⟩ :=
    sum_apply hF i y h P (k2_pay1 (F := Ideal) P) (k2_pay1_apply P) r
  rw [hd, hs, cast_self, broadcastTo_1b_ab_apply, broadcastTo_1b_ab_apply, broadcastTo_1b_ab_apply, hl, pay10_apply hF i y h, pay9_apply hF i y h]
  exact if_congr (WordCmp.ofBool_decide_eq_one_iff _) rfl rfl

/-- The updated value rows of a tile. -/
theorem outV_apply (hF : Finds K P I M) (i : grid2.Coords) (y : Fin 512) (h : 512 * (i 0).val + y.val < 20000)
    (X : S512x512.Idx → EReal) (Q : S512x2048.Idx → EReal) (r : Fin 512) :
    outV (F := Ideal) i I M X (k2_pay2 (F := Ideal) Q) (ix2 r y)
      = Cert.Bank.moved (col X y) (count K P ⟨512 * (i 0).val + y.val, h⟩) (total K P Q r ⟨512 * (i 0).val + y.val, h⟩) r := by
  set L : FVec Ideal S1x512 .f32 := sqrt (shapeCast S1x512 (multiReduction .add [0] S512 (mulf (F := Ideal) (φ := .f32) X X) 0x00000000#32 reduces_S512x512_S512 (.inl rfl) rfl) shapeCasts_S512_S1x512) with hL
  show (if broadcastTo S512x512 (shapeCast S1x512 (k2_pay10 (F := Ideal) (base2 i) I M) shapeCasts_S1x512_S1x512) broadcasts_S1x512_S512x512 (ix2 r y) = 1#1
    then broadcastTo S512x512 L broadcasts_S1x512_S512x512 (ix2 r y)
      * (keep * divf X (broadcastTo S512x512 (maximumf L (broadcast S1x512 (Scalar.ofBits .f32 0x2B8CBCCC#32))) broadcasts_S1x512_S512x512) (ix2 r y)
        + rate * Ideal.div (k2_pay8 (F := Ideal) (base2 i) I M (k2_pay2 (F := Ideal) Q) (ix2 r y))
          (broadcastTo S512x512 (k2_pay9 (F := Ideal) (base2 i) I M) broadcasts_S1x512_S512x512 (ix2 r y)))
    else X (ix2 r y)) = _
  have hd : divf X (broadcastTo S512x512 (maximumf L (broadcast S1x512 (Scalar.ofBits .f32 0x2B8CBCCC#32))) broadcasts_S1x512_S512x512) (ix2 r y)
      = dir (col X y) r := dir_kernel X _ _ _ _ _ r y
  have hl : L (ix2 0 y) = len (col X y) := len_kernel X _ _ _ _ 0 y
  have hs : k2_pay8 (F := Ideal) (base2 i) I M (k2_pay2 (F := Ideal) Q) (ix2 r y) = total K P Q r ⟨512 * (i 0).val + y.val, h⟩ :=
    sum_apply hF i y h Q (k2_pay2 (F := Ideal) Q) (k2_pay2_apply Q) r
  rw [hd, hs, cast_self, broadcastTo_1b_ab_apply, broadcastTo_1b_ab_apply, broadcastTo_1b_ab_apply, hl, pay10_apply hF i y h, pay9_apply hF i y h]
  exact if_congr (WordCmp.ofBool_decide_eq_one_iff _) rfl rfl

/-- Without a close match nothing moves. -/
theorem fresh_cold {n : ℕ} (A : (⟨2, ![n, 20000]⟩ : Shape).Idx → EReal) (Q : (⟨2, ![n, 2048]⟩ : Shape).Idx → EReal)
    (h : ∀ j, ¬ thr < scores K P j (Cert.Bank.first (scores K P j))) (r : Fin n) (y : Fin 20000) : fresh K P A Q r y = A (ix2 r y) := by
  have hc : count K P y = 0 := Finset.sum_eq_zero fun j _ => if_neg fun hh => h j hh.2
  unfold fresh Cert.Bank.moved
  rw [hc, if_neg (lt_irrefl _)]
  rfl

/-- A tile of the third kernel, over any padding, is the result's columns from the tile's first column on. -/
theorem out2_apply (hF : Finds K P I M) (n : BitVec 32) (hn : hot n ↔ ∃ j : Fin 2048, thr < M (ix2 0 j)) (i : grid2.Coords)
    (W : S512x20000.Idx → EReal) (Q : S512x2048.Idx → EReal) (X : S64x512.Idx → EReal) (Y : S512x512.Idx → EReal)
    (hX : Holds K (i 0).val X) (hY : Holds W (i 0).val Y) (r : Fin 576) (y : Fin 512) (h : 512 * (i 0).val + y.val < 20000) :
    out2 (F := Ideal) i n I M X Y (k2_pay1 (F := Ideal) P) (k2_pay2 (F := Ideal) Q) (ix2 r y)
      = result K W P Q (ix2 r ⟨512 * (i 0).val + y.val, h⟩) := by
  have hcX : col X y = col K ⟨512 * (i 0).val + y.val, h⟩ := funext fun k => hX k y h
  have hcY : col Y y = col W ⟨512 * (i 0).val + y.val, h⟩ := funext fun k => hY k y h
  unfold out2 result
  by_cases hh : hot n
  · rw [if_pos hh]
    unfold glue
    by_cases hr : r.val < 64
    · refine (dif_pos hr).trans (Eq.trans ?_ (dif_pos hr).symm)
      refine (outK_apply hF i y h X ⟨r.val, hr⟩).trans ?_
      rw [hcX]; rfl
    · refine (dif_neg hr).trans (Eq.trans ?_ (dif_neg hr).symm)
      refine (outV_apply hF i y h Y Q ⟨r.val - 64, by have := r.isLt; omega⟩).trans ?_
      rw [hcY]; rfl
  · rw [if_neg hh]
    have hno : ∀ j, ¬ thr < scores K P j (Cert.Bank.first (scores K P j)) := fun j ht => hh (hn.2 ⟨j, (hF j).1.2 ht⟩)
    unfold glue
    by_cases hr : r.val < 64
    · refine (dif_pos hr).trans (Eq.trans ?_ (dif_pos hr).symm)
      rw [fresh_cold K P hno]
      exact hX ⟨r.val, hr⟩ y h
    · refine (dif_neg hr).trans (Eq.trans ?_ (dif_neg hr).symm)
      rw [fresh_cold W Q hno]
      exact hY ⟨r.val - 64, by have := r.isLt; omega⟩ y h

end Cert.KernelIdeal.Bank
-- ==== Proof.Final.lean ====
/-
  The array the kernel program leaves on extended reals: the specification's result.
-/
module

public import proofs.«01_k».proof.Proof.Update
public import Idealize.ShloMosaic.Lib.Pipeline.ArrRel

@[expose] public section

noncomputable section

namespace Cert.KernelIdeal.Bank

open Cert.Bank Cert.KernelIdeal Cert.KernelIdeal.Gen
open Idealize.ShloMosaic Idealize.ShloMosaic.TcCoe Idealize.ShloMosaic.Tactic
open Idealize.ShloMosaic.ValueIdx (ix1 ix2)
open Idealize.ShloMosaic.Pipeline (Dat Cfg Window)

section
variable (V : (c : Dev nD) → (b : Ref sig .tc) → Buf (Elt Ideal) ((c : Thread nD τ).loc b))

/-- Whatever pads the tiles, the third region leaves the result, if the maxima, indices and count it reads are the bank's. -/
theorem region2 (c : Dev nD) (hF : Finds (V c main_arg0) (V c main_arg2) (id2 V c) (mx2 V c))
    (hn : hot (word (nc2 V c)) ↔ ∃ j : Fin 2048, thr < mx2 V c (ix2 0 j))
    (G : Buf (Elt Ideal) ((c.tc : Thread nD τ).loc main_v2)) (hG : ((dat2 V c).toRRel marked2 (rel2 V c)).ArrAt 7 cfg2.N G) :
    G = result (V c main_arg0) (V c main_arg1) (V c main_arg2) (V c main_arg3) := by
  obtain ⟨X, hX, hA⟩ := hG.exists_exact
  rw [hA (Function.update (fun _ _ _ => Classical.arbitrary _) 7 X) (fun u _ _ => congrFun (Function.update_self _ _ _) u)]
  refine Dat.arrAt_eq_of_covers _ 7 _ (by decide +kernel) fun t hf y => ?_
  obtain ⟨dk, dv, hT⟩ : rel2 V c 7 t (X t) := Dat.toRRel_leaves _ rfl (hX t t.isLt hf)
  have hm : 512 * (grid2.coords t 0).val + (y 1).val < 20000 :=
    (moved2_7 (grid2.coords t) (win2_7.xinj (grid2.coords t) y)).1 ((win2_7.moved_iff _ _).2 fun a => (y a).isLt)
  have h0 : (y 0).val < 576 := (win2_7.xinj (grid2.coords t) y 0).isLt
  have h1 : (y 1).val < 512 := (win2_7.xinj (grid2.coords t) y 1).isLt
  have hx : win2_7.xinj (grid2.coords t) y = (ix2 ⟨(y 0).val, h0⟩ ⟨(y 1).val, h1⟩ : S576x512.Idx) := by
    funext a; fin_cases a <;> rfl
  have he : ((cfg2.win 7).blk t).view.emb y = (ix2 ⟨(y 0).val, h0⟩ ⟨512 * (grid2.coords t 0).val + (y 1).val, hm⟩ : S576x20000.Idx) := by
    have hc := coords2 t
    refine funext fun a => Fin.ext ?_
    fin_cases a
    · show ((win2_7.blk t).view.emb y 0).val = (y 0).val
      blk_simp [index2_7]
    · show ((win2_7.blk t).view.emb y 1).val = 512 * (grid2.coords t 0).val + (y 1).val
      blk_simp [index2_7]
      rw [hc]; simp; omega
  refine (cast_eq _ _).trans ?_
  have ha : Function.update (β := fun w' : Fin cfg2.W => Fin cfg2.N → (cfg2.win w').block.Idx → Elt Ideal (cfg2.win w').elt)
      (fun _ _ _ => Classical.arbitrary _) 7 X 7 = X := Function.update_self _ _ _
  have hv : ∀ z, Function.update (β := fun w' : Fin cfg2.W => Fin cfg2.N → (cfg2.win w').block.Idx → Elt Ideal (cfg2.win w').elt)
      (fun _ _ _ => Classical.arbitrary _) 7 X 7 t z = X t z := fun z => by rw [ha]
  refine (hv _).trans ?_
  rw [he, hT]
  refine (congrArg _ hx).trans ?_
  have hr := out2_apply hF (word (nc2 V c)) hn (grid2.coords t) (V c main_arg1) (V c main_arg3) _ _
    (holds2_3 V c t dk) (holds2_4 V c t dv) ⟨(y 0).val, h0⟩ ⟨(y 1).val, h1⟩ hm
  unfold tile2
  rw [pk2_whole, pv2_whole]
  exact hr
end

/-- The result array of the kernel program, of the argument arrays. -/
theorem ends_result (m : (ℓ : Loc nD τ sig) → Buf (Elt Ideal) ℓ) (c : Dev nD) (s : MemSt nD τ sig (Elt Ideal)) (h : Ends m c s) :
    s.mem ((c.tc : Thread nD τ).loc main_v2) = result (m ((c.tc : Thread nD τ).loc main_arg0)) (m ((c.tc : Thread nD τ).loc main_arg1))
      (m ((c.tc : Thread nD τ).loc main_arg2)) (m ((c.tc : Thread nD τ).loc main_arg3)) := by
  obtain ⟨-, -, -, -, hG⟩ := h
  have a0 : B2 m c main_arg0 = m ((c.tc : Thread nD τ).loc main_arg0) := B2_arg m c main_arg0 (by decide) (by decide)
  have a1 : B2 m c main_arg1 = m ((c.tc : Thread nD τ).loc main_arg1) := B2_arg m c main_arg1 (by decide) (by decide)
  have a2 : B2 m c main_arg2 = m ((c.tc : Thread nD τ).loc main_arg2) := B2_arg m c main_arg2 (by decide) (by decide)
  have a3 : B2 m c main_arg3 = m ((c.tc : Thread nD τ).loc main_arg3) := B2_arg m c main_arg3 (by decide) (by decide)
  have b0 : B1 m c main_arg0 = m ((c.tc : Thread nD τ).loc main_arg0) := B1_of m c main_arg0 (by decide)
  have b2 : B1 m c main_arg2 = m ((c.tc : Thread nD τ).loc main_arg2) := B1_of m c main_arg2 (by decide)
  have m1 : mx1 (B1 m) c = best (B0 m) c := (mx1_whole (B1 m) c).trans ((B1_main_v0_0 m c).trans (arr0_2 (B0 m) c))
  have n1 : nc1 (B1 m) c = countOf (F := Ideal) (best (B0 m) c) := (nc1_whole (B1 m) c).trans ((B1_main_v0_1 m c).trans (arr0_3 (B0 m) c))
  have m2 : mx2 (B2 m) c = best (B0 m) c :=
    (mx2_whole (B2 m) c).trans ((B2_of m c main_v0_0 (by decide)).trans ((B1_main_v0_0 m c).trans (arr0_2 (B0 m) c)))
  have n2 : nc2 (B2 m) c = countOf (F := Ideal) (best (B0 m) c) :=
    (nc2_whole (B2 m) c).trans ((B2_of m c main_v0_1 (by decide)).trans ((B1_main_v0_1 m c).trans (arr0_3 (B0 m) c)))
  have i2 : id2 (B2 m) c = place (B1 m) c := (id2_whole (B2 m) c).trans ((B2_main_v1 m c).trans (arr1_4 (B1 m) c))
  rw [← a0, ← a1, ← a2, ← a3]
  refine region2 (B2 m) c (fun j => ?_) ?_ _ hG
  · rw [a0, a2, m2]
    refine ⟨best_close (B0 m) c j, fun ht => ?_⟩
    rw [i2]
    have hb := best_eq (B0 m) c j ht
    have hp := place_eq (B1 m) c (by rw [n1]; exact (hot_count _).2 ⟨j, ht⟩) j
    rw [b0, b2, m1] at hp
    exact hp hb
  · rw [n2, m2]
    exact hot_count _

end Cert.KernelIdeal.Bank
-- ==== Proof.RefOps.lean ====
/-
  The reference's operations read at one element on extended reals: lengths and directions of columns, the first best
  match of a column, the value there, and sums scattered to the columns that were matched.
-/
module

public import proofs.«01_k».proof.Proof.RefRun
public import proofs.«01_k».proof.Proof.Ops
public import Idealize.ShloMosaic.Lib.Routing.OpsPair

@[expose] public section

noncomputable section

namespace Cert.Bank

open Idealize.ShloMosaic Idealize.ShloMosaic.ValueIdx
open scoped Classical

variable {n m : ℕ}

/-- A vector laid out as one row. -/
theorem row_apply {α : Type} (h : (⟨1, ![m]⟩ : Shape).BroadcastsInDim ⟨2, ![1, m]⟩ ![1]) (x : (⟨1, ![m]⟩ : Shape).Idx → α) (u : Fin 1)
    (y : Fin m) : broadcastInDim ⟨2, ![1, m]⟩ ![1] h x (ix2 u y) = x (ix1 y) := by
  refine broadcastInDim_apply _ h x _ _ fun a => ?_
  match a with
  | ⟨0, _⟩ =>
    show y.val = if m = 1 then 0 else y.val
    have := y.isLt
    split <;> omega

/-- A vector laid out as one column. -/
theorem column_apply {α : Type} (h : (⟨1, ![m]⟩ : Shape).BroadcastsInDim ⟨2, ![m, 1]⟩ ![0]) (x : (⟨1, ![m]⟩ : Shape).Idx → α) (u : Fin 1)
    (y : Fin m) : broadcastInDim ⟨2, ![m, 1]⟩ ![0] h x (ix2 y u) = x (ix1 y) := by
  refine broadcastInDim_apply _ h x _ _ fun a => ?_
  match a with
  | ⟨0, _⟩ =>
    show y.val = if m = 1 then 0 else y.val
    have := y.isLt
    split <;> omega

/-- The sum of a column's squares, as the reference takes it. -/
theorem squares_host (v : FVec Ideal ⟨2, ![n, m]⟩ .f32) (h' : (⟨2, ![n, m]⟩ : Shape).ReducesTo [0] ⟨1, ![m]⟩)
    (h : (⟨2, ![n, m]⟩ : Shape).Reduces [0] ⟨1, ![m]⟩) (hu : 0 < (⟨0, ![]⟩ : Shape).numel) (y : Fin m) :
    Host.reduceAdd (mulf v v) (constant ⟨0, ![]⟩ .f32 0x00000000#32) h' hu (ix1 y) = ∑ k, col v y k * col v y k := by
  rw [hostReduceAdd_apply, Ideal.hostReduceAdd_single h' h]
  have z : (constant (F := Ideal) ⟨0, ![]⟩ .f32 0x00000000#32) (Shape.Idx.first hu) = 0 := Ideal.ofBits_zero_f32
  rw [z, zero_add]
  refine Finset.sum_congr rfl fun k _ => ?_
  rw [lift_rows h y k]; rfl

/-- A column's length, as the reference takes it. -/
theorem len_host (v : FVec Ideal ⟨2, ![n, m]⟩ .f32) (h' : (⟨2, ![n, m]⟩ : Shape).ReducesTo [0] ⟨1, ![m]⟩)
    (h : (⟨2, ![n, m]⟩ : Shape).Reduces [0] ⟨1, ![m]⟩) (hu : 0 < (⟨0, ![]⟩ : Shape).numel) (y : Fin m) :
    Host.sqrt (Host.reduceAdd (mulf v v) (constant ⟨0, ![]⟩ .f32 0x00000000#32) h' hu) (ix1 y) = len (col v y) :=
  congrArg Ideal.sqrt (squares_host v h' h hu y)

/-- A column's direction, as the reference takes it. -/
theorem dir_host (v : FVec Ideal ⟨2, ![n, m]⟩ .f32) (h' : (⟨2, ![n, m]⟩ : Shape).ReducesTo [0] ⟨1, ![m]⟩)
    (h : (⟨2, ![n, m]⟩ : Shape).Reduces [0] ⟨1, ![m]⟩) (hu : 0 < (⟨0, ![]⟩ : Shape).numel)
    (hr : (⟨1, ![m]⟩ : Shape).BroadcastsInDim ⟨2, ![1, m]⟩ ![1]) (he : (⟨0, ![]⟩ : Shape).BroadcastsInDim ⟨2, ![1, m]⟩ ![])
    (hb : (⟨2, ![1, m]⟩ : Shape).BroadcastsInDim ⟨2, ![n, m]⟩ ![0, 1]) (i : Fin n) (y : Fin m) :
    Host.divf v (broadcastInDim ⟨2, ![n, m]⟩ ![0, 1] hb (maximumf
      (Host.sqrt (broadcastInDim ⟨2, ![1, m]⟩ ![1] hr (Host.reduceAdd (mulf v v) (constant ⟨0, ![]⟩ .f32 0x00000000#32) h' hu)))
      (broadcastInDim ⟨2, ![1, m]⟩ ![] he (constant ⟨0, ![]⟩ .f32 0x2B8CBCCC#32)))) (ix2 i y) = dir (col v y) i := by
  refine congrArg (Ideal.div (v (ix2 i y))) ((broadcastInDim_oneRow_apply hb _ i y).trans (congrArg₂ max (congrArg Ideal.sqrt ?_) ?_))
  · rw [row_apply, squares_host v h' h hu y]
  · rw [broadcastInDim_scalar_apply]; rfl

/-! ## The first best match -/

/-- A left fold by an operation that returns one of its operands, one that ranks at least as high as both, returns the initial
    value or a member, and one that ranks at least as high as all of them. -/
theorem foldl_best {α β : Type} (R : α → α → Prop) (hr : ∀ a, R a a) (ht : ∀ a b c, R a b → R b c → R a c) (f : α → α → α)
    (hm : ∀ a b, f a b = a ∨ f a b = b) (hf : ∀ a b, R (f a b) a ∧ R (f a b) b) (g : β → α) (l : List β) : ∀ b : α,
    (l.foldl (fun r q => f r (g q)) b = b ∨ ∃ q ∈ l, l.foldl (fun r q => f r (g q)) b = g q) ∧
      R (l.foldl (fun r q => f r (g q)) b) b ∧ ∀ q ∈ l, R (l.foldl (fun r q => f r (g q)) b) (g q) := by
  induction l with
  | nil => exact fun b => ⟨Or.inl rfl, hr b, fun q hq => absurd hq List.not_mem_nil⟩
  | cons p l ih =>
    intro b
    obtain ⟨h1, h2, h3⟩ := ih (f b (g p))
    have hp := ht _ _ _ h2 (hf b (g p)).2
    refine ⟨?_, ht _ _ _ h2 (hf b (g p)).1, fun q hq => ?_⟩
    · rcases h1 with h1 | ⟨q, hq, h1⟩
      · rcases hm b (g p) with e | e
        · exact Or.inl (h1.trans e)
        · exact Or.inr ⟨p, List.mem_cons_self, h1.trans e⟩
      · exact Or.inr ⟨q, List.mem_cons_of_mem _ hq, h1⟩
    · rcases List.mem_cons.1 hq with rfl | hq
      · exact hp
      · exact h3 q hq

/-- The rank of a value with its position: greater value first, then smaller position. -/
def Above (a b : EReal × BitVec 32) : Prop := b.1 < a.1 ∨ (a.1 = b.1 ∧ a.2.toInt ≤ b.2.toInt)

/-- The reference's step keeps one of two pairs, the one that ranks higher. -/
theorem step_best (a b : EReal × BitVec 32) :
    (Cert.ReferenceIdeal.reducer_argmax_f32_i32 (F := Ideal) a b = a ∧ Above a b) ∨
      (Cert.ReferenceIdeal.reducer_argmax_f32_i32 (F := Ideal) a b = b ∧ Above b a) := by
  obtain ⟨x, i⟩ := a
  obtain ⟨y, k⟩ := b
  have e : Cert.ReferenceIdeal.reducer_argmax_f32_i32 (F := Ideal) (x, i) (y, k) =
      (Scalar.select (IntOp.ori (BitVec.ofBool (decide (y < x))) (BitVec.ofBool (decide (x ≠ x)))) x y,
       Scalar.select (IntOp.ori (IntOp.ori (BitVec.ofBool (decide (y < x))) (BitVec.ofBool (decide (x ≠ x))))
        (IntOp.andi (BitVec.ofBool (decide (x = y))) (BitVec.ofBool (decide (i.toInt < k.toInt))))) i k) := by
    simp only [Cert.ReferenceIdeal.reducer_argmax_f32_i32, Ideal.cmpf_def, Ideal.cmp, IntOp.cmpi, BitVec.slt]
  rw [e]
  unfold Above
  rcases lt_trichotomy y x with h | h | h
  · left; refine ⟨?_, Or.inl h⟩
    simp [Scalar.select, IntOp.ori, IntOp.andi, h, h.ne']
  · subst h
    by_cases hl : i.toInt < k.toInt
    · left; refine ⟨?_, Or.inr ⟨rfl, hl.le⟩⟩
      simp [Scalar.select, IntOp.ori, IntOp.andi, hl]
    · right; refine ⟨?_, Or.inr ⟨rfl, not_lt.1 hl⟩⟩
      simp [Scalar.select, IntOp.ori, IntOp.andi, hl]
  · right; refine ⟨?_, Or.inl h⟩
    simp [Scalar.select, IntOp.ori, IntOp.andi, not_lt.2 h.le, h.ne]

/-- What comes of folding the steps over pairs of values and positions from minus infinity at position zero, is the first greatest member's position. -/
theorem best_first [NeZero n] (hn : n < 2 ^ 31) (f : Fin n → EReal) (p : EReal × BitVec 32)
    (hp : p = (⊥, 0#32) ∨ ∃ r : Fin n, p = (f r, BitVec.ofNat 32 r.val)) (ha : ∀ r : Fin n, Above p (f r, BitVec.ofNat 32 r.val)) :
    p.2 = BitVec.ofNat 32 (first f).val := by
  have hz : ∀ r : Fin n, (BitVec.ofNat 32 r.val).toInt = (r.val : ℤ) := fun r =>
    WordCmp.toInt_ofNat_of_lt (by have := r.isLt; omega)
  rcases hp with rfl | ⟨a, rfl⟩
  · have hb : ∀ r, f r = ⊥ := fun r => by
      rcases ha r with h | ⟨h, _⟩
      · exact absurd h not_lt_bot
      · exact h.symm
    rw [eq_first f 0 (fun r => by rw [hb, hb]) fun r hr => absurd hr (by simp)]
    rfl
  · rw [eq_first f a]
    · intro r
      rcases ha r with h | ⟨h, _⟩
      · exact h.le
      · exact h.ge
    · intro r hr
      rcases ha r with h | ⟨_, h⟩
      · exact h
      · dsimp only at h
        rw [hz, hz] at h
        have : r.val < a.val := hr
        omega

/-- The reference's best match of a column. -/
theorem argmax_host [NeZero n] (hn : n < 2 ^ 31) (x : FVec Ideal ⟨2, ![n, m]⟩ .f32) (h' : (⟨2, ![n, m]⟩ : Shape).ReducesTo [0] ⟨1, ![m]⟩)
    (h : (⟨2, ![n, m]⟩ : Shape).Reduces [0] ⟨1, ![m]⟩) (hu : 0 < (⟨0, ![]⟩ : Shape).numel) (j : Fin m) :
    (Host.argReduce (Cert.ReferenceIdeal.reducer_argmax_f32_i32 (F := Ideal)) x (iotaInDim ⟨2, ![n, m]⟩ 32 0)
      (constant ⟨0, ![]⟩ .f32 0xFF800000#32) (constantI ⟨0, ![]⟩ 32 0#32) h' hu (ix1 j)).2 =
      BitVec.ofNat 32 (first fun r => x (ix2 r j)).val := by
  rw [Ideal.argReduce_eq_reduce2]
  unfold Host.reduce2
  have hi : (constant (F := Ideal) ⟨0, ![]⟩ .f32 0xFF800000#32) (Shape.Idx.first hu) = ⊥ := ofBits_neg_inf
  have hj : (constantI ⟨0, ![]⟩ 32 0#32) (Shape.Idx.first hu) = 0#32 := rfl
  rw [hi, hj]
  obtain ⟨h1, -, h3⟩ := foldl_best Above (fun a => Or.inr ⟨rfl, le_rfl⟩)
    (fun a b c hab hbc => by
      rcases hab with hab | ⟨hab, hab'⟩ <;> rcases hbc with hbc | ⟨hbc, hbc'⟩
      · exact Or.inl (hbc.trans hab)
      · exact Or.inl (hbc ▸ hab)
      · exact Or.inl (hab.symm ▸ hbc)
      · exact Or.inr ⟨hab.trans hbc, hab'.trans hbc'⟩)
    (Cert.ReferenceIdeal.reducer_argmax_f32_i32 (F := Ideal)) (fun a b => (step_best a b).imp And.left And.left)
    (fun a b => by
      rcases step_best a b with ⟨e, ha⟩ | ⟨e, ha⟩
      · rw [e]; exact ⟨Or.inr ⟨rfl, le_rfl⟩, ha⟩
      · rw [e]; exact ⟨ha, Or.inr ⟨rfl, le_rfl⟩⟩)
    (fun q => (x ((⟨2, ![n, m]⟩ : Shape).rowMajor.symm q), iotaInDim ⟨2, ![n, m]⟩ 32 0 ((⟨2, ![n, m]⟩ : Shape).rowMajor.symm q)))
    ((List.finRange (⟨2, ![n, m]⟩ : Shape).numel).filter fun q => h'.drop ((⟨2, ![n, m]⟩ : Shape).rowMajor.symm q) = ix1 j) (⊥, 0#32)
  refine best_first hn (fun r => x (ix2 r j)) _ (h1.imp id ?_) fun r => ?_
  · rintro ⟨q, hq, e⟩
    have hd : h.drop ((⟨2, ![n, m]⟩ : Shape).rowMajor.symm q) = ix1 j := of_decide_eq_true (List.mem_filter.1 hq).2
    have hl := h.lift_drop ((⟨2, ![n, m]⟩ : Shape).rowMajor.symm q)
    rw [hd] at hl
    have hl' := (lift_rows h j _).symm.trans hl
    refine ⟨(⟨2, ![n, m]⟩ : Shape).rowMajor.symm q 0, e.trans (congrArg (fun i => (x i, iotaInDim ⟨2, ![n, m]⟩ 32 0 i)) hl'.symm)⟩
  · have hd : h.drop (ix2 r j) = ix1 j := by rw [← lift_rows h j r]; exact h.drop_lift _ _
    have := h3 ((⟨2, ![n, m]⟩ : Shape).rowMajor (ix2 r j)) (List.mem_filter.2 ⟨List.mem_finRange _, decide_eq_true (by
      rw [Equiv.symm_apply_apply]; exact hd)⟩)
    rw [Equiv.symm_apply_apply] at this
    exact this

/-! ## Sums scattered to matched columns -/

/-- A scatter of scalars into a vector by one index word each. -/
abbrev vecDims (N n : ℕ) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- A scatter of columns into a matrix by one index word each. -/
abbrev colDims (R N n : ℕ) (wf : ScatterDims.WF ⟨2, ![R, N]⟩ ⟨2, ![n, 1]⟩ ⟨2, ![R, n]⟩ [0] [1] [1] 1) :
    ScatterDims ⟨2, ![R, N]⟩ ⟨2, ![n, 1]⟩ ⟨2, ![R, n]⟩ where
  updateWindowDims := [0]
  insertedWindowDims := [1]
  scatterDimsToOperandDims := [1]
  indexVectorDim := 1
  wf := wf

/-- A scalar lands at the position its word names. -/
theorem vec_lands {N : ℕ} (hN : N < 2 ^ 31) (wf : ScatterDims.WF ⟨1, ![N]⟩ ⟨2, ![n, 1]⟩ ⟨1, ![n]⟩ [] [0] [0] 1) (idx : IVec ⟨2, ![n, 1]⟩ 32)
    (g : Fin n → Fin N) (hg : ∀ j, idx (ix2 j 0) = BitVec.ofNat 32 (g j).val) (j : Fin n) (c : Fin N) :
    (vecDims N n wf).resultIdx? (ix1 j) idx = some (ix1 c) ↔ g j = c := by
  refine (Routing.resultIdx?_ix1 (vecDims N n wf) (ix1 j) idx c).trans ?_
  have hs : (vecDims N n wf).start (ix1 j) idx 0 = ((g j).val : ℤ) := by
    have e : (vecDims N n wf).start (ix1 j) idx 0 = (idx (ix2 j 0)).toInt := by
      unfold ScatterDims.start
      rw [dif_pos (List.mem_singleton.2 rfl)]
      refine congrArg (fun i => (idx i).toInt) (funext fun b => ?_)
      match b with
      | ⟨0, _⟩ => rfl
      | ⟨1, _⟩ => rfl
    rw [e, hg, WordCmp.toInt_ofNat_of_lt (by have := (g j).isLt; omega)]
  have hw : (vecDims N n wf).window (ix1 j) 0 = 0 := rfl
  rw [hs, hw, Fin.ext_iff]
  omega

/-- A column's entry lands in its row at the column its word names. -/
theorem col_lands {R N : ℕ} (hN : N < 2 ^ 31) (wf : ScatterDims.WF ⟨2, ![R, N]⟩ ⟨2, ![n, 1]⟩ ⟨2, ![R, n]⟩ [0] [1] [1] 1)
    (idx : IVec ⟨2, ![n, 1]⟩ 32) (g : Fin n → Fin N) (hg : ∀ j, idx (ix2 j 0) = BitVec.ofNat 32 (g j).val) (r i : Fin R) (j : Fin n)
    (c : Fin N) : (colDims R N n wf).resultIdx? (ix2 r j) idx = some (ix2 i c) ↔ r = i ∧ g j = c := by
  refine (Routing.resultIdx?_ix2 (colDims R N n wf) (ix2 r j) idx i c).trans ?_
  have hs0 : (colDims R N n wf).start (ix2 r j) idx 0 = 0 := rfl
  have hs1 : (colDims R N n wf).start (ix2 r j) idx 1 = ((g j).val : ℤ) := by
    have e : (colDims R N n wf).start (ix2 r j) idx 1 = (idx (ix2 j 0)).toInt := by
      unfold ScatterDims.start
      rw [dif_pos (List.mem_singleton.2 rfl)]
      refine congrArg (fun i => (idx i).toInt) (funext fun b => ?_)
      match b with
      | ⟨0, _⟩ => rfl
      | ⟨1, _⟩ => rfl
    rw [e, hg, WordCmp.toInt_ofNat_of_lt (by have := (g j).isLt; omega)]
  have hw0 : (colDims R N n wf).window (ix2 r j) 0 = r.val := rfl
  have hw1 : (colDims R N n wf).window (ix2 r j) 1 = 0 := rfl
  rw [hs0, hs1, hw0, hw1, Fin.ext_iff, Fin.ext_iff]
  omega

/-- The sums of the scalars scattered to a vector. -/
theorem scatter_vec {N : ℕ} (hN : N < 2 ^ 31) (wf : ScatterDims.WF ⟨1, ![N]⟩ ⟨2, ![n, 1]⟩ ⟨1, ![n]⟩ [] [0] [0] 1) (idx : IVec ⟨2, ![n, 1]⟩ 32)
    (g : Fin n → Fin N) (hg : ∀ j, idx (ix2 j 0) = BitVec.ofNat 32 (g j).val) (x : FVec Ideal ⟨1, ![N]⟩ .f32)
    (upd : FVec Ideal ⟨1, ![n]⟩ .f32) (c : Fin N) :
    Host.scatterAdd (vecDims N n wf) x idx upd (ix1 c) = x (ix1 c) + ∑ j, if g j = c then upd (ix1 j) else 0 := by
  show x _ + ∑ q ∈ Finset.univ.filter _, upd q = _
  rw [Finset.sum_filter]
  refine congrArg (x (ix1 c) + ·) ?_
  refine Fintype.sum_equiv ⟨fun i => i 0, fun j => ix1 j, fun i => (eq_ix1 i).symm, fun _ => rfl⟩ _ _ fun i => ?_
  obtain ⟨j, rfl⟩ : ∃ j, i = ix1 j := ⟨_, eq_ix1 i⟩
  exact if_congr (vec_lands hN wf idx g hg j c) rfl rfl

/-- The sums of the columns scattered to a matrix. -/
theorem scatter_cols {R N : ℕ} (hN : N < 2 ^ 31) (wf : ScatterDims.WF ⟨2, ![R, N]⟩ ⟨2, ![n, 1]⟩ ⟨2, ![R, n]⟩ [0] [1] [1] 1)
    (idx : IVec ⟨2, ![n, 1]⟩ 32) (g : Fin n → Fin N) (hg : ∀ j, idx (ix2 j 0) = BitVec.ofNat 32 (g j).val)
    (x : FVec Ideal ⟨2, ![R, N]⟩ .f32) (upd : FVec Ideal ⟨2, ![R, n]⟩ .f32) (i : Fin R) (c : Fin N) :
    Host.scatterAdd (colDims R N n wf) x idx upd (ix2 i c) = x (ix2 i c) + ∑ j, if g j = c then upd (ix2 i j) else 0 := by
  show x _ + ∑ q ∈ Finset.univ.filter _, upd q = _
  rw [Finset.sum_filter, sum_idx2]
  refine congrArg (x (ix2 i c) + ·) ?_
  rw [Finset.sum_eq_single i]
  · exact Finset.sum_congr rfl fun j _ => if_congr ((col_lands hN wf idx g hg i i j c).trans (and_iff_right rfl)) rfl rfl
  · exact fun r _ hr => Finset.sum_eq_zero fun j _ => if_neg fun q => hr ((col_lands hN wf idx g hg r i j c).1 q).1
  · exact fun q => absurd (Finset.mem_univ _) q

/-- The scatters' index words: the best matches' words, wrapped where negative, in one column. -/
theorem words_apply (hm : m ≤ 2 ^ 31) (w : IVec ⟨1, ![n]⟩ 32) (g : Fin n → Fin m) (hg : ∀ j, w (ix1 j) = BitVec.ofNat 32 (g j).val)
    (hz : (⟨0, ![]⟩ : Shape).BroadcastsInDim ⟨1, ![n]⟩ ![]) (hc : (⟨1, ![n]⟩ : Shape).BroadcastsInDim ⟨2, ![n, 1]⟩ ![0]) (k : BitVec 32) (j : Fin n) :
    broadcastInDim ⟨2, ![n, 1]⟩ ![0] hc (select (cmpi .slt w (broadcastInDim ⟨1, ![n]⟩ ![] hz (constantI ⟨0, ![]⟩ 32 0#32)))
      (addi w (broadcastInDim ⟨1, ![n]⟩ ![] hz (constantI ⟨0, ![]⟩ 32 k))) w) (ix2 j 0) = BitVec.ofNat 32 (g j).val := by
  rw [column_apply]
  show Scalar.select (IntOp.cmpi .slt (w (ix1 j)) (broadcastInDim ⟨1, ![n]⟩ ![] hz (constantI ⟨0, ![]⟩ 32 0#32) (ix1 j))) _ (w (ix1 j)) = _
  rw [broadcastInDim_scalar_apply]
  refine (Routing.wrap_of_lt _ _ ?_).trans (hg j)
  rw [hg, BitVec.toNat_ofNat]
  have := (g j).isLt
  refine lt_of_le_of_lt (Nat.mod_le _ _) (by omega)

end Cert.Bank

end
-- ==== Proof.RefTake.lean ====
/-
  The reference's reading of a matrix at one row per column, and its correlations, at one element.
-/
module

public import proofs.«01_k».proof.Proof.RefOps
public import Idealize.ShloMosaic.Lib.StackMember

@[expose] public section

noncomputable section

namespace Cert.Bank

open Idealize.ShloMosaic Idealize.ShloMosaic.ValueIdx

variable {N m : ℕ}

/-- The conjunction of ones is one. -/
theorem all_ones {s t : Shape} {axes : List (Fin s.rank)} (h : s.ReducesTo axes t) (hu : 0 < (⟨0, ![]⟩ : Shape).numel) (x : IVec s 1)
    (hx : ∀ i, x i = 1#1) (j : t.Idx) : Host.reduce IntOp.andi x (constantI ⟨0, ![]⟩ 1 1#1) h hu j = 1#1 := by
  have key : ∀ l : List (Fin s.numel), l.foldl (fun r q => IntOp.andi r (x (s.rowMajor.symm q))) 1#1 = 1#1 := fun l => by
    induction l with
    | nil => rfl
    | cons q l ih =>
      rw [List.foldl_cons, hx]
      exact ih
  exact key _

/-- The row words, wrapped where negative, as the reading's start indices. -/
theorem starts_apply (hN : N ≤ 2 ^ 31) (w : IVec ⟨1, ![m]⟩ 32) (g : Fin m → Fin N) (hg : ∀ j, w (ix1 j) = BitVec.ofNat 32 (g j).val)
    (hr : (⟨1, ![m]⟩ : Shape).BroadcastsInDim ⟨2, ![1, m]⟩ ![1]) (hz : (⟨0, ![]⟩ : Shape).BroadcastsInDim ⟨2, ![1, m]⟩ ![])
    (hs : (⟨2, ![1, m]⟩ : Shape).ShapeCasts ⟨3, ![1, m, 1]⟩) (k : BitVec 32) (i : (⟨3, ![1, m, 1]⟩ : Shape).Idx) :
    shapeCast ⟨3, ![1, m, 1]⟩ (select (cmpi .slt (broadcastInDim ⟨2, ![1, m]⟩ ![1] hr w) (broadcastInDim ⟨2, ![1, m]⟩ ![] hz (constantI ⟨0, ![]⟩ 32 0#32)))
      (addi (broadcastInDim ⟨2, ![1, m]⟩ ![1] hr w) (broadcastInDim ⟨2, ![1, m]⟩ ![] hz (constantI ⟨0, ![]⟩ 32 k)))
      (broadcastInDim ⟨2, ![1, m]⟩ ![1] hr w)) hs i = BitVec.ofNat 32 (g (i 1)).val := by
  rw [shapeCast_apply _ hs i (ix2 (0 : Fin 1) (i 1)) (by
    have h0 : (i 0).val = 0 := Nat.lt_one_iff.1 (i 0).isLt
    have h2 : (i 2).val = 0 := Nat.lt_one_iff.1 (i 2).isLt
    rw [Shape.rowMajor_val_two, Shape.rowMajor_val_three]
    show 0 * m + (i 1).val = ((i 0).val * m + (i 1).val) * 1 + (i 2).val
    rw [h0, h2]; omega)]
  show Scalar.select (IntOp.cmpi .slt (broadcastInDim ⟨2, ![1, m]⟩ ![1] hr w (ix2 0 (i 1))) 0#32) _
    (broadcastInDim ⟨2, ![1, m]⟩ ![1] hr w (ix2 0 (i 1))) = _
  have hw : broadcastInDim ⟨2, ![1, m]⟩ ![1] hr w (ix2 0 (i 1)) = BitVec.ofNat 32 (g (i 1)).val := (row_apply hr w 0 (i 1)).trans (hg _)
  refine (Routing.wrap_of_lt _ _ ?_).trans hw
  rw [hw, BitVec.toNat_ofNat]
  have := (g (i 1)).isLt
  exact lt_of_le_of_lt (Nat.mod_le _ _) (by omega)

/-- The reading: each column of the matrix at the row its word names. -/
theorem take_apply (hN : 0 < N) (hN' : N ≤ 2 ^ 31) (x : FVec Ideal ⟨2, ![N, m]⟩ .f32) (r : IVec ⟨3, ![1, m, 1]⟩ 32) (g : Fin m → Fin N)
    (hr : ∀ i, r i = BitVec.ofNat 32 (g (i 1)).val) (k : BitVec 32) (hk : k = BitVec.ofNat 32 (N - 1)) (v : EReal)
    (wf : GatherDims.WF ⟨2, ![N, m]⟩ ⟨3, ![1, m, 1]⟩ ⟨2, ![1, m]⟩ [] [0] [1] [0] [1] 2 ![1, 1])
    (hd : (⟨3, ![1, m, 1]⟩ : Shape).ReducesTo [2] ⟨2, ![1, m]⟩) (hu : 0 < (⟨0, ![]⟩ : Shape).numel)
    (hs : (⟨2, ![1, m]⟩ : Shape).ShapeCasts ⟨1, ![m]⟩) (lo hi : IVec ⟨3, ![1, m, 1]⟩ 32) (hlo : ∀ i, lo i = 0#32) (hhi : ∀ i, hi i = k)
    (d : FVec Ideal ⟨2, ![1, m]⟩ .f32) (j : Fin m) :
    shapeCast ⟨1, ![m]⟩ (select (Host.reduce IntOp.andi (andi (cmpi .sge r lo) (cmpi .sle r hi)) (constantI ⟨0, ![]⟩ 1 1#1) hd hu)
      (Host.gather (takeRowsDims N m 1 wf) x r) d) hs (ix1 j) = x (ix2 (g j) j) := by
  rw [shapeCast_1a_a_apply]
  show Scalar.select (Host.reduce IntOp.andi _ _ hd hu (ix2 0 j)) (Host.gather (takeRowsDims N m 1 wf) x r (ix2 0 j)) _ = _
  rw [all_ones hd hu _ (fun i => ?_), gather_take_rows_apply hN wf x r (ix2 0 j)]
  · refine congrArg x (congrArg₂ ix2 (Fin.ext ?_) rfl)
    show min (r (takeIdx (ix2 0 j))).toInt.toNat (N - 1) = (g j).val
    have := (g j).isLt
    rw [hr]
    show min (BitVec.ofNat 32 (g j).val).toInt.toNat (N - 1) = (g j).val
    rw [WordCmp.toInt_ofNat_of_lt (by omega)]
    omega
  · have := (g (i 1)).isLt
    show IntOp.andi (IntOp.cmpi .sge (r i) (lo i)) (IntOp.cmpi .sle (r i) (hi i)) = 1#1
    rw [hr, hlo, hhi, hk, WordCmp.cmpi_sge_ofNat (by omega) (by omega), WordCmp.cmpi_sle_ofNat (by omega) (by omega), decide_eq_true (Nat.zero_le _),
      decide_eq_true (by omega)]
    rfl

/-- The reference's correlations of two matrices' columns. -/
theorem corr_host {n : ℕ} (a : FVec Ideal ⟨2, ![n, N]⟩ .f32) (b : FVec Ideal ⟨2, ![n, m]⟩ .f32)
    (ht : (⟨2, ![n, N]⟩ : Shape).Transposes [1, 0] ⟨2, ![N, n]⟩) (r : Fin N) (j : Fin m) :
    Host.dotGeneral (DotDims.plain N n m) none (transpose ⟨2, ![N, n]⟩ [1, 0] a ht) b (ix2 r j) = ∑ k, a (ix2 k r) * b (ix2 k j) := by
  rw [StackMember.dotGeneral_plain_apply]
  refine Finset.sum_congr rfl fun k _ => congrArg (· * _) ?_
  refine transpose_apply [1, 0] a ht _ _ fun q => ?_
  match q with
  | ⟨0, _⟩ => rfl
  | ⟨1, _⟩ => rfl

end Cert.Bank

end
-- ==== Proof.RefVal.lean ====
/-
  What the reference's buffers hold at the end, on extended reals, one stretch after another.
-/
module

public import proofs.«01_k».proof.Proof.RefTake

@[expose] public section

noncomputable section

namespace Cert.ReferenceIdeal.Bank

open Cert.ReferenceIdeal Cert.ReferenceIdeal.Gen Cert.Bank
open Idealize.ShloMosaic Idealize.ShloMosaic.TcCoe Idealize.ShloMosaic.StableHlo Idealize.ShloMosaic.ValueIdx

variable (V : Valuation τ sig (Elt Ideal))

/-- The bank's keys. -/
abbrev keys : FVec Ideal S64x20000 .f32 := V (Proc.devRef .tc main_arg0)
/-- The bank's values. -/
abbrev vals : FVec Ideal S512x20000 .f32 := V (Proc.devRef .tc main_arg1)
/-- The frame's keys. -/
abbrev frameKeys : FVec Ideal S64x2048 .f32 := V (Proc.devRef .tc main_arg2)
/-- The frame's values. -/
abbrev frameVals : FVec Ideal S512x2048 .f32 := V (Proc.devRef .tc main_arg3)

/-- The bank's keys, normalised. -/
theorem v7_eq (i : Fin 64) (y : Fin 20000) : fin V (Proc.devRef .tc main_v7) (ix2 i y) = dir (col (keys V) y) i := by
  rw [stage 0 10 sNk rfl V main_v7 (by decide)]
  after_results
  exact dir_host (keys V) reducesTo_S64x20000_S20000_d0 (by decide) h_S_ _ _ _ i y

/-- The frame's keys, normalised. -/
theorem v15_eq (i : Fin 64) (y : Fin 2048) : fin V (Proc.devRef .tc main_v15) (ix2 i y) = dir (col (frameKeys V) y) i := by
  rw [stage 10 10 sNpk rfl V main_v15 (by decide)]
  after_results
  rw [inp 10 V main_arg2 (by decide), fin_arg V main_arg2 (by decide)]
  exact dir_host (frameKeys V) reducesTo_S64x2048_S2048_d0 (by decide) h_S_ _ _ _ i y

/-- The lengths of the bank's key columns. -/
theorem v16_eq (y : Fin 20000) : fin V (Proc.devRef .tc main_v16) (ix1 y) = len (col (keys V) y) := by
  rw [stage 20 4 sMagK rfl V main_v16 (by decide)]
  simp only [sMagK, TRef.binary, TRef.nullary, TRef.unary, TRef.toBuf, TRef.ofBuf, cast_eq]
  after_results
  rw [inp 20 V main_arg0 (by decide), fin_arg V main_arg0 (by decide)]
  exact len_host (keys V) reducesTo_S64x20000_S20000_d0 (by decide) h_S_ y

/-- The correlations. -/
theorem v18_eq (r : Fin 20000) (j : Fin 2048) : fin V (Proc.devRef .tc main_v18) (ix2 r j) = scores (keys V) (frameKeys V) j r := by
  rw [stage 24 2 sCorr rfl V main_v18 (by decide)]
  after_results
  rw [inp 24 V main_v7 (by decide), inp 24 V main_v15 (by decide)]
  refine (corr_host (fin V (Proc.devRef .tc main_v7)) (fin V (Proc.devRef .tc main_v15)) _ r j).trans ?_
  unfold scores corr
  exact Finset.sum_congr rfl fun k _ => by rw [v7_eq, v15_eq]

/-- The best match of each frame column. -/
theorem v19_eq (j : Fin 2048) :
    fin V (Proc.devRef .tc main_v19) (ix1 j) = BitVec.ofNat 32 (first (scores (keys V) (frameKeys V) j)).val := by
  rw [stage 26 5 sArg rfl V main_v19 (by decide)]
  simp only [sArg, TRef.quaternary, TRef.nullary, TRef.unary, TRef.toBuf, TRef.ofBuf, cast_eq]
  after_results
  rw [inp 26 V main_v18 (by decide)]
  refine (argmax_host (by norm_num) (fin V (Proc.devRef .tc main_v18)) reducesTo_S20000x2048_S2048_d0 (by decide) h_S_ j).trans ?_
  exact congrArg (fun f => BitVec.ofNat 32 (first f).val) (funext fun r => v18_eq V r j)

/-- A frame column's greatest correlation. -/
theorem v22_eq (j : Fin 2048) : fin V (Proc.devRef .tc main_v22) (ix1 j) =
    scores (keys V) (frameKeys V) j (first (scores (keys V) (frameKeys V) j)) := by
  rw [stage 31 24 sTake rfl V main_v22 (by decide)]
  simp only [sTake, TRef.ternary, TRef.binary, TRef.nullary, TRef.unary, TRef.reshape, TRef.toBuf, TRef.ofBuf, cast_eq]
  after_results
  rw [inp 31 V main_v18 (by decide), inp 31 V main_v19 (by decide)]
  refine (take_apply (by norm_num) (by norm_num) (fin V (Proc.devRef .tc main_v18)) _ (fun j => first (scores (keys V) (frameKeys V) j))
    (starts_apply (by norm_num) (fin V (Proc.devRef .tc main_v19)) _ (v19_eq V) bcast_S2048_S1x2048_1 bcast_S_S1x2048 shapeCasts_S1x2048_S1x2048x1 20000#32)
    19999#32 rfl 0 (by decide) reducesTo_S1x2048x1_S1x2048_d2 h_S_ shapeCasts_S1x2048_S2048 _ _ (fun _ => rfl) (fun _ => rfl) _ j).trans ?_
  exact v18_eq V _ j

open scoped Classical in
/-- The weight of a frame column: one where its best match is close, zero elsewhere. -/
theorem v25_eq (j : Fin 2048) : fin V (Proc.devRef .tc main_v25) (ix1 j) =
    if thr < scores (keys V) (frameKeys V) j (first (scores (keys V) (frameKeys V) j)) then (1 : EReal) else 0 := by
  rw [stage 55 4 sClose rfl V main_v25 (by decide)]
  after_results
  rw [inp 55 V main_v22 (by decide)]
  show (((BitVec.ofBool (decide (thr < fin V (Proc.devRef .tc main_v22) (ix1 j)))).toNat : ℝ) : EReal) = _
  rw [v22_eq]
  by_cases h : thr < scores (keys V) (frameKeys V) j (first (scores (keys V) (frameKeys V) j))
  · rw [if_pos h, decide_eq_true h]; simp
  · rw [if_neg h, decide_eq_false h]; simp

open scoped Classical in
/-- A frame column's share in the sum at a bank column. -/
theorem share_eq (c : Fin 20000) (j : Fin 2048) (x : EReal) :
    (if first (scores (keys V) (frameKeys V) j) = c then x * fin V (Proc.devRef .tc main_v25) (ix1 j) else 0) =
      if Hit (keys V) (frameKeys V) c j then x else 0 := by
  rw [v25_eq]
  unfold Hit
  by_cases h : first (scores (keys V) (frameKeys V) j) = c
  · by_cases h' : thr < scores (keys V) (frameKeys V) j (first (scores (keys V) (frameKeys V) j))
    · rw [if_pos h, if_pos h', if_pos ⟨h, h'⟩, mul_one]
    · rw [if_pos h, if_neg h', if_neg fun q => h' q.2, mul_zero]
  · rw [if_neg h, if_neg fun q => h q.1]

/-- Columns times their weights. -/
theorem weigh_apply {n m : ℕ} (d : FVec Ideal ⟨2, ![n, m]⟩ .f32) (w : FVec Ideal ⟨1, ![m]⟩ .f32)
    (hb : (⟨2, ![1, m]⟩ : Shape).BroadcastsInDim ⟨2, ![n, m]⟩ ![0, 1]) (hr : (⟨1, ![m]⟩ : Shape).BroadcastsInDim ⟨2, ![1, m]⟩ ![1])
    (i : Fin n) (j : Fin m) :
    mulf d (broadcastInDim ⟨2, ![n, m]⟩ ![0, 1] hb (broadcastInDim ⟨2, ![1, m]⟩ ![1] hr w)) (ix2 i j) = d (ix2 i j) * w (ix1 j) :=
  congrArg (d (ix2 i j) * ·) ((broadcastInDim_oneRow_apply hb _ i j).trans (row_apply hr w 0 j))

/-- A matrix whose marked columns are moved towards the means of sums. -/
theorem move_apply {n m : ℕ} (p : IVec ⟨2, ![1, m]⟩ 1) (l k : FVec Ideal ⟨1, ![m]⟩ .f32) (d s a : FVec Ideal ⟨2, ![n, m]⟩ .f32)
    (hb : (⟨2, ![1, m]⟩ : Shape).BroadcastsInDim ⟨2, ![n, m]⟩ ![0, 1]) (hr : (⟨1, ![m]⟩ : Shape).BroadcastsInDim ⟨2, ![1, m]⟩ ![1])
    (hz : (⟨0, ![]⟩ : Shape).BroadcastsInDim ⟨2, ![n, m]⟩ ![]) (i : Fin n) (c : Fin m) :
    select (broadcastInDim ⟨2, ![n, m]⟩ ![0, 1] hb p)
      (mulf (broadcastInDim ⟨2, ![n, m]⟩ ![0, 1] hb (broadcastInDim ⟨2, ![1, m]⟩ ![1] hr l))
        (addf (mulf (broadcastInDim ⟨2, ![n, m]⟩ ![] hz (constant ⟨0, ![]⟩ .f32 0x3F666666#32)) d)
          (mulf (broadcastInDim ⟨2, ![n, m]⟩ ![] hz (constant ⟨0, ![]⟩ .f32 0x3DCCCCCD#32))
            (Host.divf s (broadcastInDim ⟨2, ![n, m]⟩ ![0, 1] hb (broadcastInDim ⟨2, ![1, m]⟩ ![1] hr k)))))) a (ix2 i c) =
      if p (ix2 0 c) = 1#1 then l (ix1 c) * (keep * d (ix2 i c) + rate * Ideal.div (s (ix2 i c)) (k (ix1 c))) else a (ix2 i c) := by
  have e : ∀ w : FVec Ideal ⟨1, ![m]⟩ .f32, broadcastInDim ⟨2, ![n, m]⟩ ![0, 1] hb (broadcastInDim ⟨2, ![1, m]⟩ ![1] hr w) (ix2 i c) = w (ix1 c) :=
    fun w => (broadcastInDim_oneRow_apply hb _ i c).trans (row_apply hr w 0 c)
  have e' : broadcastInDim ⟨2, ![n, m]⟩ ![0, 1] hb p (ix2 i c) = p (ix2 0 c) := broadcastInDim_oneRow_apply hb p i c
  refine (congrArg (fun b => Scalar.select b _ _) e').trans ?_
  refine if_congr Iff.rfl (congrArg₂ (· * ·) (e l) (congrArg₂ (· + ·) rfl (congrArg (rate * ·) (congrArg (Ideal.div _) (e k))))) rfl

open scoped Classical in
/-- A moved column's entry, from the marks, lengths, divisors, directions and sums. -/
theorem moved_of {n : ℕ} (f : Fin n → EReal) (i : Fin n) (q s : EReal) :
    (if BitVec.ofBool (decide (0 < q)) = 1#1 then len f * (keep * dir f i + rate * Ideal.div s (max q 1)) else f i) = moved f q s i := by
  unfold moved
  exact if_congr (WordCmp.ofBool_decide_eq_one_iff _) rfl rfl

/-- How many close matches a bank column has. -/
theorem v33_eq (c : Fin 20000) : fin V (Proc.devRef .tc main_v33) (ix1 c) = count (keys V) (frameKeys V) c := by
  rw [stage 59 18 sCnt rfl V main_v33 (by decide)]
  after_results
  rw [inp 59 V main_v19 (by decide), inp 59 V main_v25 (by decide)]
  refine (scatter_vec (by norm_num) (by decide) _ (fun j => first (scores (keys V) (frameKeys V) j))
    (words_apply (by norm_num) (fin V (Proc.devRef .tc main_v19)) _ (v19_eq V) bcast_S_S2048 bcast_S2048_S2048x1_0 20000#32)
    _ (fin V (Proc.devRef .tc main_v25)) c).trans ?_
  have hz : broadcastInDim S20000 ![] bcast_S_S20000 (constant (F := Ideal) S_ .f32 0x00000000#32) (ix1 c) = 0 := Ideal.ofBits_zero_f32
  refine (congrArg (· + _) hz).trans ((zero_add _).trans (Finset.sum_congr rfl fun j _ => ?_))
  rw [← share_eq, one_mul]

/-- The divisors of the means, and which bank columns have a close match. -/
abbrev sDiv {F : FTy → Type} [FloatOps F] : List (HloOp τ sig (Elt F)) :=
  [ nullary main_cst_6 (constant S_ .f32 0x3F800000#32),
    unary main_cst_6 main_v34 (broadcastInDim S20000 ![] bcast_S_S20000 : Arr F S_ .f32 → Arr F S20000 .f32),
    binary main_v33 main_v34 main_v35 (maximumf : Arr F S20000 .f32 → Arr F S20000 .f32 → Arr F S20000 .f32),
    nullary main_cst_7 (constant S_ .f32 0x00000000#32),
    unary main_cst_7 main_v36 (broadcastInDim S20000 ![] bcast_S_S20000 : Arr F S_ .f32 → Arr F S20000 .f32),
    binary main_v33 main_v36 main_v37 (cmpf .ogt : Arr F S20000 .f32 → Arr F S20000 .f32 → Arr F S20000 .i1),
    unary main_v37 main_v38 (broadcastInDim S1x20000 ![1] bcast_S20000_S1x20000_1 : Arr F S20000 .i1 → Arr F S1x20000 .i1) ]

/-- A greatest of an entry and one. -/
theorem max_one_apply (k : FVec Ideal S20000 .f32) (c : Fin 20000) :
    maximumf k (broadcastInDim S20000 ![] bcast_S_S20000 (constant (F := Ideal) S_ .f32 0x3F800000#32)) (ix1 c) = max (k (ix1 c)) 1 :=
  congrArg (max (k (ix1 c))) Ideal.ofBits_one_f32

/-- Whether an entry is positive, in one row. -/
theorem pos_apply (k : FVec Ideal S20000 .f32) (c : Fin 20000) :
    broadcastInDim S1x20000 ![1] bcast_S20000_S1x20000_1 (cmpf .ogt k (broadcastInDim S20000 ![] bcast_S_S20000
      (constant (F := Ideal) S_ .f32 0x00000000#32))) (ix2 0 c) = BitVec.ofBool (decide (0 < k (ix1 c))) :=
  (row_apply bcast_S20000_S1x20000_1 _ 0 c).trans
    (congrArg (fun z : EReal => BitVec.ofBool (decide (z < k (ix1 c)))) Ideal.ofBits_zero_f32)

/-- The divisor of a bank column's mean. -/
theorem v35_eq (c : Fin 20000) : fin V (Proc.devRef .tc main_v35) (ix1 c) = max (count (keys V) (frameKeys V) c) 1 := by
  rw [stage 70 7 sDiv rfl V main_v35 (by decide)]
  after_results
  rw [inp 70 V main_v33 (by decide)]
  refine (max_one_apply (fin V (Proc.devRef .tc main_v33)) c).trans ?_
  rw [v33_eq]

/-- Whether a bank column has a close match. -/
theorem v38_eq (c : Fin 20000) : fin V (Proc.devRef .tc main_v38) (ix2 0 c) = BitVec.ofBool (decide (0 < count (keys V) (frameKeys V) c)) := by
  rw [stage 70 7 sDiv rfl V main_v38 (by decide)]
  after_results
  rw [inp 70 V main_v33 (by decide)]
  refine (pos_apply (fin V (Proc.devRef .tc main_v33)) c).trans ?_
  rw [v33_eq]

open scoped Classical in
/-- The sums of the keys scattered to the bank's columns. -/
theorem scatter_keys (idx : IVec S2048x1 32) (g : Fin 2048 → Fin 20000) (hg : ∀ j, idx (ix2 j 0) = BitVec.ofNat 32 (g j).val)
    (x : FVec Ideal S64x20000 .f32) (upd : FVec Ideal S64x2048 .f32) (i : Fin 64) (c : Fin 20000) (hx : x (ix2 i c) = 0) :
    Host.scatterAdd scatter_S64x20000_S2048x1_S64x2048_0_1_1_1 x idx upd (ix2 i c) = ∑ j, if g j = c then upd (ix2 i j) else 0 :=
  (scatter_cols (R := 64) (N := 20000) (n := 2048) (by norm_num) scatter_S64x20000_S2048x1_S64x2048_0_1_1_1.wf idx g hg x upd i c).trans
    ((congrArg (· + _) hx).trans (zero_add _))

open scoped Classical in
/-- The sums of the values scattered to the bank's columns. -/
theorem scatter_vals (idx : IVec S2048x1 32) (g : Fin 2048 → Fin 20000) (hg : ∀ j, idx (ix2 j 0) = BitVec.ofNat 32 (g j).val)
    (x : FVec Ideal S512x20000 .f32) (upd : FVec Ideal S512x2048 .f32) (i : Fin 512) (c : Fin 20000) (hx : x (ix2 i c) = 0) :
    Host.scatterAdd scatter_S512x20000_S2048x1_S512x2048_0_1_1_1 x idx upd (ix2 i c) = ∑ j, if g j = c then upd (ix2 i j) else 0 :=
  (scatter_cols (R := 512) (N := 20000) (n := 2048) (by norm_num) scatter_S512x20000_S2048x1_S512x2048_0_1_1_1.wf idx g hg x upd i c).trans
    ((congrArg (· + _) hx).trans (zero_add _))

/-- The index words at a bank column's scatter name the best matches. -/
theorem words_eq (j : Fin 2048) : broadcastInDim S2048x1 ![0] bcast_S2048_S2048x1_0
    (select (cmpi .slt (fin V (Proc.devRef .tc main_v19)) (broadcastInDim S2048 ![] bcast_S_S2048 (constantI S_ 32 0#32)))
      (addi (fin V (Proc.devRef .tc main_v19)) (broadcastInDim S2048 ![] bcast_S_S2048 (constantI S_ 32 20000#32)))
      (fin V (Proc.devRef .tc main_v19))) (ix2 j 0) = BitVec.ofNat 32 (first (scores (keys V) (frameKeys V) j)).val :=
  words_apply (by norm_num) (fin V (Proc.devRef .tc main_v19)) (fun j => first (scores (keys V) (frameKeys V) j)) (v19_eq V)
    bcast_S_S2048 bcast_S2048_S2048x1_0 20000#32 j

/-- The sums of the directions of matched frame keys. -/
theorem v49_eq (i : Fin 64) (c : Fin 20000) :
    fin V (Proc.devRef .tc main_v49) (ix2 i c) = total (keys V) (frameKeys V) (frameKeys V) i c := by
  rw [stage 77 14 (sKs1 ++ sKs2) rfl V main_v49 (by decide)]
  simp only [List.cons_append, List.nil_append]
  after_results
  rw [inp 77 V main_v15 (by decide), inp 77 V main_v19 (by decide), inp 77 V main_v25 (by decide)]
  refine (scatter_keys _ (fun j => first (scores (keys V) (frameKeys V) j)) (words_eq V) _ _ i c Ideal.ofBits_zero_f32).trans
    (Finset.sum_congr rfl fun j _ => ?_)
  rw [weigh_apply, v15_eq, share_eq]

/-- The new keys. -/
theorem v61_eq (i : Fin 64) (c : Fin 20000) :
    fin V (Proc.devRef .tc main_v61) (ix2 i c) = fresh (keys V) (frameKeys V) (keys V) (frameKeys V) i c := by
  rw [stage 91 15 sNewK rfl V main_v61 (by decide)]
  simp only [sNewK, TRef.ternary, TRef.unary, TRef.toBuf, TRef.ofBuf, cast_eq]
  after_results
  rw [inp 91 V main_v16 (by decide), inp 91 V main_v35 (by decide), inp 91 V main_v7 (by decide), inp 91 V main_v38 (by decide),
    inp 91 V main_v49 (by decide), inp 91 V main_arg0 (by decide), fin_arg V main_arg0 (by decide)]
  refine (move_apply (fin V (Proc.devRef .tc main_v38)) (fin V (Proc.devRef .tc main_v16)) (fin V (Proc.devRef .tc main_v35))
    (fin V (Proc.devRef .tc main_v7)) (fin V (Proc.devRef .tc main_v49)) (keys V) bcast_S1x20000_S64x20000_0_1 bcast_S20000_S1x20000_1
    bcast_S_S64x20000 i c).trans ?_
  rw [v38_eq, v16_eq, v35_eq, v7_eq, v49_eq]
  exact moved_of (col (keys V) c) i _ _

/-- The bank's values, normalised. -/
theorem v69_eq (i : Fin 512) (y : Fin 20000) : fin V (Proc.devRef .tc main_v69) (ix2 i y) = dir (col (vals V) y) i := by
  rw [stage 106 10 sNv rfl V main_v69 (by decide)]
  after_results
  rw [inp 106 V main_arg1 (by decide), fin_arg V main_arg1 (by decide)]
  exact dir_host (vals V) reducesTo_S512x20000_S20000_d0 (by decide) h_S_ _ _ _ i y

/-- The frame's values, normalised. -/
theorem v77_eq (i : Fin 512) (y : Fin 2048) : fin V (Proc.devRef .tc main_v77) (ix2 i y) = dir (col (frameVals V) y) i := by
  rw [stage 116 10 sNpv rfl V main_v77 (by decide)]
  after_results
  rw [inp 116 V main_arg3 (by decide), fin_arg V main_arg3 (by decide)]
  exact dir_host (frameVals V) reducesTo_S512x2048_S2048_d0 (by decide) h_S_ _ _ _ i y

/-- The lengths of the bank's value columns. -/
theorem v78_eq (y : Fin 20000) : fin V (Proc.devRef .tc main_v78) (ix1 y) = len (col (vals V) y) := by
  rw [stage 126 4 sMagV rfl V main_v78 (by decide)]
  simp only [sMagV, TRef.binary, TRef.nullary, TRef.unary, TRef.toBuf, TRef.ofBuf, cast_eq]
  after_results
  rw [inp 126 V main_arg1 (by decide), fin_arg V main_arg1 (by decide)]
  exact len_host (vals V) reducesTo_S512x20000_S20000_d0 (by decide) h_S_ y

/-- The sums of the directions of matched frame values. -/
theorem v89_eq (i : Fin 512) (c : Fin 20000) :
    fin V (Proc.devRef .tc main_v89) (ix2 i c) = total (keys V) (frameKeys V) (frameVals V) i c := by
  rw [stage 130 14 sVs rfl V main_v89 (by decide)]
  after_results
  rw [inp 130 V main_v77 (by decide), inp 130 V main_v19 (by decide), inp 130 V main_v25 (by decide)]
  refine (scatter_vals _ (fun j => first (scores (keys V) (frameKeys V) j)) (words_eq V) _ _ i c Ideal.ofBits_zero_f32).trans
    (Finset.sum_congr rfl fun j _ => ?_)
  rw [weigh_apply, v77_eq, share_eq]

/-- The new values. -/
theorem v101_eq (i : Fin 512) (c : Fin 20000) :
    fin V (Proc.devRef .tc main_v101) (ix2 i c) = fresh (keys V) (frameKeys V) (vals V) (frameVals V) i c := by
  rw [stage 144 15 (sNewV1 ++ sNewV2) rfl V main_v101 (by decide)]
  simp only [sNewV1, sNewV2, List.cons_append, List.nil_append, TRef.ternary, TRef.unary, TRef.toBuf, TRef.ofBuf, cast_eq]
  after_results
  rw [inp 144 V main_v78 (by decide), inp 144 V main_v35 (by decide), inp 144 V main_v69 (by decide), inp 144 V main_v38 (by decide),
    inp 144 V main_v89 (by decide), inp 144 V main_arg1 (by decide), fin_arg V main_arg1 (by decide)]
  refine (move_apply (fin V (Proc.devRef .tc main_v38)) (fin V (Proc.devRef .tc main_v78)) (fin V (Proc.devRef .tc main_v35))
    (fin V (Proc.devRef .tc main_v69)) (fin V (Proc.devRef .tc main_v89)) (vals V) bcast_S1x20000_S512x20000_0_1 bcast_S20000_S1x20000_1
    bcast_S_S512x20000 i c).trans ?_
  rw [v38_eq, v78_eq, v35_eq, v69_eq, v89_eq]
  exact moved_of (col (vals V) c) i _ _

/-- The reference's result, of its arguments. -/
theorem v102_eq : fin V (Proc.devRef .tc main_v102) = result (keys V) (vals V) (frameKeys V) (frameVals V) := by
  rw [stage 159 1 sCat rfl V main_v102 (by decide)]
  after_results
  rw [inp 159 V main_v61 (by decide), inp 159 V main_v101 (by decide)]
  funext y
  obtain ⟨r, c, rfl⟩ : ∃ (r : Fin 576) (c : Fin 20000), y = ix2 r c := ⟨y 0, y 1, eq_ix2 y⟩
  unfold result
  by_cases h : r.val < 64
  · refine (concatenate_pair_apply_left (t := S576x20000) (s₁ := S64x20000) (s₂ := S512x20000) 0 (fin V (Proc.devRef .tc main_v61))
      (fin V (Proc.devRef .tc main_v101)) concatenates_S64x20000_S512x20000_S576x20000_d0 (ix2 r c) rfl (ix2 ⟨r.val, h⟩ c) fun b => ?_).trans ?_
    · match b with
      | ⟨0, _⟩ => rfl
      | ⟨1, _⟩ => rfl
    · rw [v61_eq, dif_pos (show ((ix2 r c) 0).val < 64 from h)]
  · have hr := r.isLt
    refine (concatenate_pair_apply_right (t := S576x20000) (s₁ := S64x20000) (s₂ := S512x20000) 0 (fin V (Proc.devRef .tc main_v61))
      (fin V (Proc.devRef .tc main_v101)) concatenates_S64x20000_S512x20000_S576x20000_d0 (ix2 r c) rfl rfl (ix2 ⟨r.val - 64, by omega⟩ c)
      (fun b hb => ?_) ?_).trans ?_
    · match b with
      | ⟨0, _⟩ => exact absurd rfl hb
      | ⟨1, _⟩ => rfl
    · show r.val - 64 + 64 = r.val
      omega
    · rw [v101_eq, dif_neg (show ¬ ((ix2 r c) 0).val < 64 from h)]

end Cert.ReferenceIdeal.Bank

end
-- ==== Proof.Algebraic.lean ====
/-
  The value claim: from the same arguments the kernel and the reference end with the same result on extended reals.
-/
module

public import proofs.«01_k».proof.Defs
public import proofs.«01_k».proof.Proof.Final
public import proofs.«01_k».proof.Proof.RefVal

@[expose] public section

noncomputable section

namespace Cert.Bank

open Idealize.ShloMosaic Idealize.ShloMosaic.StableHlo Idealize.SL.Sem

/-- Both programs end with the specification's result of the arguments, and with the arguments unchanged. -/
theorem same_result : Cert.algebraic_KernelIdeal_ReferenceIdeal (hKernelIdeal := Cert.KernelIdeal.Gen.facts)
    (hReferenceIdeal := Cert.ReferenceIdeal.Gen.facts) := fun m g m' g' _ hargs =>
  ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run _ _ _).mono (fun r h c => ⟨Cert.KernelIdeal.Bank.ends_result m c r.2 (h.1 c),
      let ⟨h0, h1, h2, h3, _⟩ := h.1 c; ⟨h0, h1, h2, h3⟩⟩) (Cert.KernelIdeal.Bank.run_main (F := Ideal) m g),
    (θ_run _ _ _).mono (fun r h c => by
      obtain ⟨e0, e1, e2, e3⟩ := hargs c
      refine ⟨?_, (h c Cert.ReferenceIdeal.main_arg0).trans (Cert.ReferenceIdeal.Bank.fin_arg _ _ (by decide)),
        (h c Cert.ReferenceIdeal.main_arg1).trans (Cert.ReferenceIdeal.Bank.fin_arg _ _ (by decide)),
        (h c Cert.ReferenceIdeal.main_arg2).trans (Cert.ReferenceIdeal.Bank.fin_arg _ _ (by decide)),
        (h c Cert.ReferenceIdeal.main_arg3).trans (Cert.ReferenceIdeal.Bank.fin_arg _ _ (by decide))⟩
      refine (h c Cert.ReferenceIdeal.main_v102).trans ((Cert.ReferenceIdeal.Bank.v102_eq (launchContents m' c)).trans ?_)
      have k0 : Cert.ReferenceIdeal.Bank.keys (launchContents m' c) = m ((c.tc : Thread Cert.KernelIdeal.nD Cert.KernelIdeal.τ).loc Cert.KernelIdeal.main_arg0) := e0
      have k1 : Cert.ReferenceIdeal.Bank.vals (launchContents m' c) = m ((c.tc : Thread Cert.KernelIdeal.nD Cert.KernelIdeal.τ).loc Cert.KernelIdeal.main_arg1) := e1
      have k2 : Cert.ReferenceIdeal.Bank.frameKeys (launchContents m' c) = m ((c.tc : Thread Cert.KernelIdeal.nD Cert.KernelIdeal.τ).loc Cert.KernelIdeal.main_arg2) := e2
      have k3 : Cert.ReferenceIdeal.Bank.frameVals (launchContents m' c) = m ((c.tc : Thread Cert.KernelIdeal.nD Cert.KernelIdeal.τ).loc Cert.KernelIdeal.main_arg3) := e3
      rw [k0, k1, k2, k3]) (Cert.ReferenceIdeal.Bank.run_main (F := Ideal) m' g')⟩

end Cert.Bank

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Bank.frame_kernel, Cert.Bank.frame_ideal, Cert.Bank.frame_reference, trivial, Cert.Bank.same_result⟩

end Cert.Proof

end
